-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 1024]⟩ ⟨3, ![4, 1024, 1024]⟩ (Layout.meshBlock [2, 2, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1x1024 : Shape := ⟨2, ![1, 1024]⟩
abbrev S8x32x1024 : Shape := ⟨3, ![8, 32, 1024]⟩
abbrev S56 : Shape := ⟨1, ![56]⟩
abbrev S_ : Shape := ⟨0, ![]⟩
abbrev S1x256x1024 : Shape := ⟨3, ![1, 256, 1024]⟩
abbrev S256x1024 : Shape := ⟨2, ![256, 1024]⟩
abbrev S1 : Shape := ⟨1, ![1]⟩
abbrev S1x32x1024 : Shape := ⟨3, ![1, 32, 1024]⟩
abbrev S32x1024 : Shape := ⟨2, ![32, 1024]⟩
abbrev S32 : Shape := ⟨1, ![32]⟩
abbrev S32x1 : Shape := ⟨2, ![32, 1]⟩
abbrev S1024 : Shape := ⟨1, ![1024]⟩

abbrev nBuf : Space → Nat
  | .hbm => 4
  | .vmem => 14
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1x1024, .bf16⟩
  | .hbm, ⟨3, _⟩ => ⟨S1024x1024, .f32⟩
  | .local _ .vmem, ⟨0, _⟩ => ⟨S1x1024x1024, .bf16⟩
  | .local _ .vmem, ⟨1, _⟩ => ⟨S1024x1024, .bf16⟩
  | .local _ .vmem, ⟨2, _⟩ => ⟨S1x1024, .bf16⟩
  | .local _ .vmem, ⟨3, _⟩ => ⟨S1024x1024, .f32⟩
  | .local _ .vmem, ⟨4, _⟩ => ⟨S8x32x1024, .bf16⟩
  | .local _ .vmem, ⟨5, _⟩ => ⟨S8x32x1024, .bf16⟩
  | .local _ .vmem, ⟨6, _⟩ => ⟨S8x32x1024, .bf16⟩
  | .local _ .vmem, ⟨7, _⟩ => ⟨S8x32x1024, .bf16⟩
  | .local _ .vmem, ⟨8, _⟩ => ⟨S8x32x1024, .bf16⟩
  | .local _ .vmem, ⟨9, _⟩ => ⟨S8x32x1024, .bf16⟩
  | .local _ .vmem, ⟨10, _⟩ => ⟨S8x32x1024, .bf16⟩
  | .local _ .vmem, ⟨11, _⟩ => ⟨S8x32x1024, .bf16⟩
  | .local _ .vmem, ⟨12, _⟩ => ⟨S8x32x1024, .bf16⟩
  | .local _ .vmem, ⟨13, _⟩ => ⟨S8x32x1024, .bf16⟩
  | _, _ => ⟨S1x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 116 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | _ => false

abbrev sig : RefSig :=
  (ofTc nBuf bufTy 1 116 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_12 : BitVec 32 := 8#32
  let v23 : BitVec 32 := Scalar.muli v2 c8_i32_12
  let v24 : BitVec 32 := Scalar.addi c0_i32 v23
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_13 : BitVec 32 := 4#32
  let v25 : BitVec 32 := Scalar.muli v5 c4_i32_13
  let v26 : BitVec 32 := Scalar.addi v24 v25
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_14 : BitVec 32 := 1#32
  let v27 : BitVec 32 := Scalar.muli v15 c1_i32_14
  let v28 : BitVec 32 := Scalar.addi v26 v27
  v28.toNat
def k0_dev2 (d0 : Dev nD) : Nat :=
  let c0_i32_17 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_16 : BitVec 32 := 8#32
  let v29 : BitVec 32 := Scalar.muli v2 c8_i32_16
  let v30 : BitVec 32 := Scalar.addi c0_i32_17 v29
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_18 : BitVec 32 := 4#32
  let v31 : BitVec 32 := Scalar.muli v5 c4_i32_18
  let v32 : BitVec 32 := Scalar.addi v30 v31
  let c3_i32 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v16 : BitVec 32 := Scalar.subi c3_i32 v8
  let c1_i32_19 : BitVec 32 := 1#32
  let v33 : BitVec 32 := Scalar.muli v16 c1_i32_19
  let v34 : BitVec 32 := Scalar.addi v32 v33
  v34.toNat
def k0_dev3 (d0 : Dev nD) : Nat :=
  let c0_i32_22 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_21 : BitVec 32 := 8#32
  let v35 : BitVec 32 := Scalar.muli v2 c8_i32_21
  let v36 : BitVec 32 := Scalar.addi c0_i32_22 v35
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v37 : BitVec 32 := Scalar.muli v5 c4_i32_23
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v17 : BitVec 32 := Scalar.xori v8 c2_i32_6
  let c1_i32_24 : BitVec 32 := 1#32
  let v39 : BitVec 32 := Scalar.muli v17 c1_i32_24
  let v40 : BitVec 32 := Scalar.addi v38 v39
  v40.toNat
def k0_dev4 (d0 : Dev nD) : Nat :=
  let c0_i32_27 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_26 : BitVec 32 := 8#32
  let v41 : BitVec 32 := Scalar.muli v18 c8_i32_26
  let v42 : BitVec 32 := Scalar.addi c0_i32_27 v41
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_28 : BitVec 32 := 4#32
  let v43 : BitVec 32 := Scalar.muli v5 c4_i32_28
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v45 : BitVec 32 := Scalar.muli v8 c1_i32_29
  let v46 : BitVec 32 := Scalar.addi v44 v45
  v46.toNat
def k0_dev5 (d0 : Dev nD) : Nat :=
  let c0_i32_32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_31 : BitVec 32 := 8#32
  let v47 : BitVec 32 := Scalar.muli v2 c8_i32_31
  let v48 : BitVec 32 := Scalar.addi c0_i32_32 v47
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_33 : BitVec 32 := 4#32
  let v49 : BitVec 32 := Scalar.muli v19 c4_i32_33
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_34 : BitVec 32 := 1#32
  let v51 : BitVec 32 := Scalar.muli v8 c1_i32_34
  let v52 : BitVec 32 := Scalar.addi v50 v51
  v52.toNat
def k0_dev6 (d0 : Dev nD) : Nat :=
  let c0_i32_37 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_36 : BitVec 32 := 8#32
  let v53 : BitVec 32 := Scalar.muli v20 c8_i32_36
  let v54 : BitVec 32 := Scalar.addi c0_i32_37 v53
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_38 : BitVec 32 := 4#32
  let v55 : BitVec 32 := Scalar.muli v21 c4_i32_38
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_39 : BitVec 32 := 1#32
  let v57 : BitVec 32 := Scalar.muli v8 c1_i32_39
  let v58 : BitVec 32 := Scalar.addi v56 v57
  v58.toNat
def k0_off1 (d0 : Dev nD) : Fin 3 → Nat :=
  let c0 : Index := 0#32
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v59 : Index := Scalar.indexCast v11
  let c0_40 : Index := 0#32
  ![0, v59.toNat, 0]
def k0_cond1 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 1 := Scalar.cmpi .eq v8 c1_i32_3
  let c2_i32_4 : BitVec 32 := 2#32
  let v13 : BitVec 1 := Scalar.cmpi .eq v8 c2_i32_4
  let v14 : BitVec 1 := Scalar.ori v12 v13
  let true_44 : BitVec 1 := 1#1
  let v66 : BitVec 1 := Scalar.xori v14 true_44
  let v67 : BitVec 32 := Scalar.extui v66
  let c0_i32_194 : BitVec 32 := 0#32
  let v68 : BitVec 1 := Scalar.cmpi .ne v67 c0_i32_194
  v68

def k0_dev7 (d0 : Dev nD) : Nat :=
  let c0_i32_1036 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1035 : BitVec 32 := 8#32
  let v660 : BitVec 32 := Scalar.muli v2 c8_i32_1035
  let v661 : BitVec 32 := Scalar.addi c0_i32_1036 v660
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1037 : BitVec 32 := 4#32
  let v662 : BitVec 32 := Scalar.muli v5 c4_i32_1037
  let v663 : BitVec 32 := Scalar.addi v661 v662
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1038 : BitVec 32 := 1#32
  let v664 : BitVec 32 := Scalar.muli v15 c1_i32_1038
  let v665 : BitVec 32 := Scalar.addi v663 v664
  v665.toNat
def k0_dev8 (d0 : Dev nD) : Nat :=
  let c0_i32_1044 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1043 : BitVec 32 := 8#32
  let v674 : BitVec 32 := Scalar.muli v2 c8_i32_1043
  let v675 : BitVec 32 := Scalar.addi c0_i32_1044 v674
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1045 : BitVec 32 := 4#32
  let v676 : BitVec 32 := Scalar.muli v5 c4_i32_1045
  let v677 : BitVec 32 := Scalar.addi v675 v676
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1046 : BitVec 32 := 1#32
  let v678 : BitVec 32 := Scalar.muli v15 c1_i32_1046
  let v679 : BitVec 32 := Scalar.addi v677 v678
  v679.toNat
def k0_dev9 (d0 : Dev nD) : Nat :=
  let c0_i32_1052 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1051 : BitVec 32 := 8#32
  let v688 : BitVec 32 := Scalar.muli v2 c8_i32_1051
  let v689 : BitVec 32 := Scalar.addi c0_i32_1052 v688
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1053 : BitVec 32 := 4#32
  let v690 : BitVec 32 := Scalar.muli v5 c4_i32_1053
  let v691 : BitVec 32 := Scalar.addi v689 v690
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1054 : BitVec 32 := 1#32
  let v692 : BitVec 32 := Scalar.muli v15 c1_i32_1054
  let v693 : BitVec 32 := Scalar.addi v691 v692
  v693.toNat
def k0_dev10 (d0 : Dev nD) : Nat :=
  let c0_i32_1060 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1059 : BitVec 32 := 8#32
  let v702 : BitVec 32 := Scalar.muli v2 c8_i32_1059
  let v703 : BitVec 32 := Scalar.addi c0_i32_1060 v702
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1061 : BitVec 32 := 4#32
  let v704 : BitVec 32 := Scalar.muli v5 c4_i32_1061
  let v705 : BitVec 32 := Scalar.addi v703 v704
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1062 : BitVec 32 := 1#32
  let v706 : BitVec 32 := Scalar.muli v15 c1_i32_1062
  let v707 : BitVec 32 := Scalar.addi v705 v706
  v707.toNat
def k0_dev11 (d0 : Dev nD) : Nat :=
  let c0_i32_1068 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1067 : BitVec 32 := 8#32
  let v716 : BitVec 32 := Scalar.muli v2 c8_i32_1067
  let v717 : BitVec 32 := Scalar.addi c0_i32_1068 v716
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1069 : BitVec 32 := 4#32
  let v718 : BitVec 32 := Scalar.muli v5 c4_i32_1069
  let v719 : BitVec 32 := Scalar.addi v717 v718
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1070 : BitVec 32 := 1#32
  let v720 : BitVec 32 := Scalar.muli v15 c1_i32_1070
  let v721 : BitVec 32 := Scalar.addi v719 v720
  v721.toNat
def k0_dev12 (d0 : Dev nD) : Nat :=
  let c0_i32_1076 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1075 : BitVec 32 := 8#32
  let v730 : BitVec 32 := Scalar.muli v2 c8_i32_1075
  let v731 : BitVec 32 := Scalar.addi c0_i32_1076 v730
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1077 : BitVec 32 := 4#32
  let v732 : BitVec 32 := Scalar.muli v5 c4_i32_1077
  let v733 : BitVec 32 := Scalar.addi v731 v732
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1078 : BitVec 32 := 1#32
  let v734 : BitVec 32 := Scalar.muli v15 c1_i32_1078
  let v735 : BitVec 32 := Scalar.addi v733 v734
  v735.toNat
def k0_dev13 (d0 : Dev nD) : Nat :=
  let c0_i32_1084 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1083 : BitVec 32 := 8#32
  let v744 : BitVec 32 := Scalar.muli v2 c8_i32_1083
  let v745 : BitVec 32 := Scalar.addi c0_i32_1084 v744
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1085 : BitVec 32 := 4#32
  let v746 : BitVec 32 := Scalar.muli v5 c4_i32_1085
  let v747 : BitVec 32 := Scalar.addi v745 v746
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1086 : BitVec 32 := 1#32
  let v748 : BitVec 32 := Scalar.muli v15 c1_i32_1086
  let v749 : BitVec 32 := Scalar.addi v747 v748
  v749.toNat
def k0_dev14 (d0 : Dev nD) : Nat :=
  let c0_i32_1092 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1091 : BitVec 32 := 8#32
  let v758 : BitVec 32 := Scalar.muli v2 c8_i32_1091
  let v759 : BitVec 32 := Scalar.addi c0_i32_1092 v758
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1093 : BitVec 32 := 4#32
  let v760 : BitVec 32 := Scalar.muli v5 c4_i32_1093
  let v761 : BitVec 32 := Scalar.addi v759 v760
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1094 : BitVec 32 := 1#32
  let v762 : BitVec 32 := Scalar.muli v15 c1_i32_1094
  let v763 : BitVec 32 := Scalar.addi v761 v762
  v763.toNat
def k0_off2 (d0 : Dev nD) (c0_i32_1121 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v802 : BitVec 32 := Scalar.addi v11 c0_i32_1121
  let v803 : Index := Scalar.indexCast v802
  let c0_1122 : Index := 0#32
  ![v803.toNat, 0]
def k0_dev15 (d0 : Dev nD) : Nat :=
  let c0_i32_1133 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1132 : BitVec 32 := 8#32
  let v831 : BitVec 32 := Scalar.muli v18 c8_i32_1132
  let v832 : BitVec 32 := Scalar.addi c0_i32_1133 v831
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1134 : BitVec 32 := 4#32
  let v833 : BitVec 32 := Scalar.muli v5 c4_i32_1134
  let v834 : BitVec 32 := Scalar.addi v832 v833
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1135 : BitVec 32 := 1#32
  let v835 : BitVec 32 := Scalar.muli v8 c1_i32_1135
  let v836 : BitVec 32 := Scalar.addi v834 v835
  v836.toNat
def k0_dev16 (d0 : Dev nD) : Nat :=
  let c0_i32_1141 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1140 : BitVec 32 := 8#32
  let v845 : BitVec 32 := Scalar.muli v2 c8_i32_1140
  let v846 : BitVec 32 := Scalar.addi c0_i32_1141 v845
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1142 : BitVec 32 := 4#32
  let v847 : BitVec 32 := Scalar.muli v19 c4_i32_1142
  let v848 : BitVec 32 := Scalar.addi v846 v847
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1143 : BitVec 32 := 1#32
  let v849 : BitVec 32 := Scalar.muli v8 c1_i32_1143
  let v850 : BitVec 32 := Scalar.addi v848 v849
  v850.toNat
def k0_dev17 (d0 : Dev nD) : Nat :=
  let c0_i32_1149 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1148 : BitVec 32 := 8#32
  let v859 : BitVec 32 := Scalar.muli v20 c8_i32_1148
  let v860 : BitVec 32 := Scalar.addi c0_i32_1149 v859
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1150 : BitVec 32 := 4#32
  let v861 : BitVec 32 := Scalar.muli v21 c4_i32_1150
  let v862 : BitVec 32 := Scalar.addi v860 v861
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1151 : BitVec 32 := 1#32
  let v863 : BitVec 32 := Scalar.muli v8 c1_i32_1151
  let v864 : BitVec 32 := Scalar.addi v862 v863
  v864.toNat
def k0_dev18 (d0 : Dev nD) : Nat :=
  let c0_i32_1191 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1190 : BitVec 32 := 8#32
  let v932 : BitVec 32 := Scalar.muli v18 c8_i32_1190
  let v933 : BitVec 32 := Scalar.addi c0_i32_1191 v932
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1192 : BitVec 32 := 4#32
  let v934 : BitVec 32 := Scalar.muli v5 c4_i32_1192
  let v935 : BitVec 32 := Scalar.addi v933 v934
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1193 : BitVec 32 := 1#32
  let v936 : BitVec 32 := Scalar.muli v8 c1_i32_1193
  let v937 : BitVec 32 := Scalar.addi v935 v936
  v937.toNat
def k0_dev19 (d0 : Dev nD) : Nat :=
  let c0_i32_1199 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1198 : BitVec 32 := 8#32
  let v946 : BitVec 32 := Scalar.muli v2 c8_i32_1198
  let v947 : BitVec 32 := Scalar.addi c0_i32_1199 v946
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1200 : BitVec 32 := 4#32
  let v948 : BitVec 32 := Scalar.muli v19 c4_i32_1200
  let v949 : BitVec 32 := Scalar.addi v947 v948
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1201 : BitVec 32 := 1#32
  let v950 : BitVec 32 := Scalar.muli v8 c1_i32_1201
  let v951 : BitVec 32 := Scalar.addi v949 v950
  v951.toNat
def k0_dev20 (d0 : Dev nD) : Nat :=
  let c0_i32_1207 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1206 : BitVec 32 := 8#32
  let v960 : BitVec 32 := Scalar.muli v20 c8_i32_1206
  let v961 : BitVec 32 := Scalar.addi c0_i32_1207 v960
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1208 : BitVec 32 := 4#32
  let v962 : BitVec 32 := Scalar.muli v21 c4_i32_1208
  let v963 : BitVec 32 := Scalar.addi v961 v962
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1209 : BitVec 32 := 1#32
  let v964 : BitVec 32 := Scalar.muli v8 c1_i32_1209
  let v965 : BitVec 32 := Scalar.addi v963 v964
  v965.toNat
def k0_dev21 (d0 : Dev nD) : Nat :=
  let c0_i32_1249 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1248 : BitVec 32 := 8#32
  let v1033 : BitVec 32 := Scalar.muli v18 c8_i32_1248
  let v1034 : BitVec 32 := Scalar.addi c0_i32_1249 v1033
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1250 : BitVec 32 := 4#32
  let v1035 : BitVec 32 := Scalar.muli v5 c4_i32_1250
  let v1036 : BitVec 32 := Scalar.addi v1034 v1035
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1251 : BitVec 32 := 1#32
  let v1037 : BitVec 32 := Scalar.muli v8 c1_i32_1251
  let v1038 : BitVec 32 := Scalar.addi v1036 v1037
  v1038.toNat
def k0_dev22 (d0 : Dev nD) : Nat :=
  let c0_i32_1257 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1256 : BitVec 32 := 8#32
  let v1047 : BitVec 32 := Scalar.muli v2 c8_i32_1256
  let v1048 : BitVec 32 := Scalar.addi c0_i32_1257 v1047
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1258 : BitVec 32 := 4#32
  let v1049 : BitVec 32 := Scalar.muli v19 c4_i32_1258
  let v1050 : BitVec 32 := Scalar.addi v1048 v1049
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1259 : BitVec 32 := 1#32
  let v1051 : BitVec 32 := Scalar.muli v8 c1_i32_1259
  let v1052 : BitVec 32 := Scalar.addi v1050 v1051
  v1052.toNat
def k0_dev23 (d0 : Dev nD) : Nat :=
  let c0_i32_1265 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1264 : BitVec 32 := 8#32
  let v1061 : BitVec 32 := Scalar.muli v20 c8_i32_1264
  let v1062 : BitVec 32 := Scalar.addi c0_i32_1265 v1061
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1266 : BitVec 32 := 4#32
  let v1063 : BitVec 32 := Scalar.muli v21 c4_i32_1266
  let v1064 : BitVec 32 := Scalar.addi v1062 v1063
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1267 : BitVec 32 := 1#32
  let v1065 : BitVec 32 := Scalar.muli v8 c1_i32_1267
  let v1066 : BitVec 32 := Scalar.addi v1064 v1065
  v1066.toNat
def k0_dev24 (d0 : Dev nD) : Nat :=
  let c0_i32_1307 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1306 : BitVec 32 := 8#32
  let v1134 : BitVec 32 := Scalar.muli v18 c8_i32_1306
  let v1135 : BitVec 32 := Scalar.addi c0_i32_1307 v1134
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1308 : BitVec 32 := 4#32
  let v1136 : BitVec 32 := Scalar.muli v5 c4_i32_1308
  let v1137 : BitVec 32 := Scalar.addi v1135 v1136
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1309 : BitVec 32 := 1#32
  let v1138 : BitVec 32 := Scalar.muli v8 c1_i32_1309
  let v1139 : BitVec 32 := Scalar.addi v1137 v1138
  v1139.toNat
def k0_dev25 (d0 : Dev nD) : Nat :=
  let c0_i32_1315 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1314 : BitVec 32 := 8#32
  let v1148 : BitVec 32 := Scalar.muli v2 c8_i32_1314
  let v1149 : BitVec 32 := Scalar.addi c0_i32_1315 v1148
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1316 : BitVec 32 := 4#32
  let v1150 : BitVec 32 := Scalar.muli v19 c4_i32_1316
  let v1151 : BitVec 32 := Scalar.addi v1149 v1150
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1317 : BitVec 32 := 1#32
  let v1152 : BitVec 32 := Scalar.muli v8 c1_i32_1317
  let v1153 : BitVec 32 := Scalar.addi v1151 v1152
  v1153.toNat
def k0_dev26 (d0 : Dev nD) : Nat :=
  let c0_i32_1323 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1322 : BitVec 32 := 8#32
  let v1162 : BitVec 32 := Scalar.muli v20 c8_i32_1322
  let v1163 : BitVec 32 := Scalar.addi c0_i32_1323 v1162
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1324 : BitVec 32 := 4#32
  let v1164 : BitVec 32 := Scalar.muli v21 c4_i32_1324
  let v1165 : BitVec 32 := Scalar.addi v1163 v1164
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1325 : BitVec 32 := 1#32
  let v1166 : BitVec 32 := Scalar.muli v8 c1_i32_1325
  let v1167 : BitVec 32 := Scalar.addi v1165 v1166
  v1167.toNat
def k0_dev27 (d0 : Dev nD) : Nat :=
  let c0_i32_1365 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1364 : BitVec 32 := 8#32
  let v1235 : BitVec 32 := Scalar.muli v18 c8_i32_1364
  let v1236 : BitVec 32 := Scalar.addi c0_i32_1365 v1235
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1366 : BitVec 32 := 4#32
  let v1237 : BitVec 32 := Scalar.muli v5 c4_i32_1366
  let v1238 : BitVec 32 := Scalar.addi v1236 v1237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1367 : BitVec 32 := 1#32
  let v1239 : BitVec 32 := Scalar.muli v8 c1_i32_1367
  let v1240 : BitVec 32 := Scalar.addi v1238 v1239
  v1240.toNat
def k0_dev28 (d0 : Dev nD) : Nat :=
  let c0_i32_1373 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1372 : BitVec 32 := 8#32
  let v1249 : BitVec 32 := Scalar.muli v2 c8_i32_1372
  let v1250 : BitVec 32 := Scalar.addi c0_i32_1373 v1249
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1374 : BitVec 32 := 4#32
  let v1251 : BitVec 32 := Scalar.muli v19 c4_i32_1374
  let v1252 : BitVec 32 := Scalar.addi v1250 v1251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1375 : BitVec 32 := 1#32
  let v1253 : BitVec 32 := Scalar.muli v8 c1_i32_1375
  let v1254 : BitVec 32 := Scalar.addi v1252 v1253
  v1254.toNat
def k0_dev29 (d0 : Dev nD) : Nat :=
  let c0_i32_1381 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1380 : BitVec 32 := 8#32
  let v1263 : BitVec 32 := Scalar.muli v20 c8_i32_1380
  let v1264 : BitVec 32 := Scalar.addi c0_i32_1381 v1263
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1382 : BitVec 32 := 4#32
  let v1265 : BitVec 32 := Scalar.muli v21 c4_i32_1382
  let v1266 : BitVec 32 := Scalar.addi v1264 v1265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1383 : BitVec 32 := 1#32
  let v1267 : BitVec 32 := Scalar.muli v8 c1_i32_1383
  let v1268 : BitVec 32 := Scalar.addi v1266 v1267
  v1268.toNat
def k0_dev30 (d0 : Dev nD) : Nat :=
  let c0_i32_1423 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1422 : BitVec 32 := 8#32
  let v1336 : BitVec 32 := Scalar.muli v18 c8_i32_1422
  let v1337 : BitVec 32 := Scalar.addi c0_i32_1423 v1336
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1424 : BitVec 32 := 4#32
  let v1338 : BitVec 32 := Scalar.muli v5 c4_i32_1424
  let v1339 : BitVec 32 := Scalar.addi v1337 v1338
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1425 : BitVec 32 := 1#32
  let v1340 : BitVec 32 := Scalar.muli v8 c1_i32_1425
  let v1341 : BitVec 32 := Scalar.addi v1339 v1340
  v1341.toNat
def k0_dev31 (d0 : Dev nD) : Nat :=
  let c0_i32_1431 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1430 : BitVec 32 := 8#32
  let v1350 : BitVec 32 := Scalar.muli v2 c8_i32_1430
  let v1351 : BitVec 32 := Scalar.addi c0_i32_1431 v1350
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1432 : BitVec 32 := 4#32
  let v1352 : BitVec 32 := Scalar.muli v19 c4_i32_1432
  let v1353 : BitVec 32 := Scalar.addi v1351 v1352
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1433 : BitVec 32 := 1#32
  let v1354 : BitVec 32 := Scalar.muli v8 c1_i32_1433
  let v1355 : BitVec 32 := Scalar.addi v1353 v1354
  v1355.toNat
def k0_dev32 (d0 : Dev nD) : Nat :=
  let c0_i32_1439 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1438 : BitVec 32 := 8#32
  let v1364 : BitVec 32 := Scalar.muli v20 c8_i32_1438
  let v1365 : BitVec 32 := Scalar.addi c0_i32_1439 v1364
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1440 : BitVec 32 := 4#32
  let v1366 : BitVec 32 := Scalar.muli v21 c4_i32_1440
  let v1367 : BitVec 32 := Scalar.addi v1365 v1366
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1441 : BitVec 32 := 1#32
  let v1368 : BitVec 32 := Scalar.muli v8 c1_i32_1441
  let v1369 : BitVec 32 := Scalar.addi v1367 v1368
  v1369.toNat
def k0_dev33 (d0 : Dev nD) : Nat :=
  let c0_i32_1481 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1480 : BitVec 32 := 8#32
  let v1437 : BitVec 32 := Scalar.muli v18 c8_i32_1480
  let v1438 : BitVec 32 := Scalar.addi c0_i32_1481 v1437
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1482 : BitVec 32 := 4#32
  let v1439 : BitVec 32 := Scalar.muli v5 c4_i32_1482
  let v1440 : BitVec 32 := Scalar.addi v1438 v1439
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1483 : BitVec 32 := 1#32
  let v1441 : BitVec 32 := Scalar.muli v8 c1_i32_1483
  let v1442 : BitVec 32 := Scalar.addi v1440 v1441
  v1442.toNat
def k0_dev34 (d0 : Dev nD) : Nat :=
  let c0_i32_1489 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1488 : BitVec 32 := 8#32
  let v1451 : BitVec 32 := Scalar.muli v2 c8_i32_1488
  let v1452 : BitVec 32 := Scalar.addi c0_i32_1489 v1451
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1490 : BitVec 32 := 4#32
  let v1453 : BitVec 32 := Scalar.muli v19 c4_i32_1490
  let v1454 : BitVec 32 := Scalar.addi v1452 v1453
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1491 : BitVec 32 := 1#32
  let v1455 : BitVec 32 := Scalar.muli v8 c1_i32_1491
  let v1456 : BitVec 32 := Scalar.addi v1454 v1455
  v1456.toNat
def k0_dev35 (d0 : Dev nD) : Nat :=
  let c0_i32_1497 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1496 : BitVec 32 := 8#32
  let v1465 : BitVec 32 := Scalar.muli v20 c8_i32_1496
  let v1466 : BitVec 32 := Scalar.addi c0_i32_1497 v1465
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1498 : BitVec 32 := 4#32
  let v1467 : BitVec 32 := Scalar.muli v21 c4_i32_1498
  let v1468 : BitVec 32 := Scalar.addi v1466 v1467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1499 : BitVec 32 := 1#32
  let v1469 : BitVec 32 := Scalar.muli v8 c1_i32_1499
  let v1470 : BitVec 32 := Scalar.addi v1468 v1469
  v1470.toNat
def k0_dev36 (d0 : Dev nD) : Nat :=
  let c0_i32_1539 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1538 : BitVec 32 := 8#32
  let v1538 : BitVec 32 := Scalar.muli v18 c8_i32_1538
  let v1539 : BitVec 32 := Scalar.addi c0_i32_1539 v1538
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1540 : BitVec 32 := 4#32
  let v1540 : BitVec 32 := Scalar.muli v5 c4_i32_1540
  let v1541 : BitVec 32 := Scalar.addi v1539 v1540
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1541 : BitVec 32 := 1#32
  let v1542 : BitVec 32 := Scalar.muli v8 c1_i32_1541
  let v1543 : BitVec 32 := Scalar.addi v1541 v1542
  v1543.toNat
def k0_dev37 (d0 : Dev nD) : Nat :=
  let c0_i32_1547 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1546 : BitVec 32 := 8#32
  let v1552 : BitVec 32 := Scalar.muli v2 c8_i32_1546
  let v1553 : BitVec 32 := Scalar.addi c0_i32_1547 v1552
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1548 : BitVec 32 := 4#32
  let v1554 : BitVec 32 := Scalar.muli v19 c4_i32_1548
  let v1555 : BitVec 32 := Scalar.addi v1553 v1554
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1549 : BitVec 32 := 1#32
  let v1556 : BitVec 32 := Scalar.muli v8 c1_i32_1549
  let v1557 : BitVec 32 := Scalar.addi v1555 v1556
  v1557.toNat
def k0_dev38 (d0 : Dev nD) : Nat :=
  let c0_i32_1555 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1554 : BitVec 32 := 8#32
  let v1566 : BitVec 32 := Scalar.muli v20 c8_i32_1554
  let v1567 : BitVec 32 := Scalar.addi c0_i32_1555 v1566
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1556 : BitVec 32 := 4#32
  let v1568 : BitVec 32 := Scalar.muli v21 c4_i32_1556
  let v1569 : BitVec 32 := Scalar.addi v1567 v1568
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1557 : BitVec 32 := 1#32
  let v1570 : BitVec 32 := Scalar.muli v8 c1_i32_1557
  let v1571 : BitVec 32 := Scalar.addi v1569 v1570
  v1571.toNat
def k0_cond2 (d0 : Dev nD) : BitVec 1 :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v12 : BitVec 1 := Scalar.cmpi .eq v8 c1_i32_3
  let c2_i32_4 : BitVec 32 := 2#32
  let v13 : BitVec 1 := Scalar.cmpi .eq v8 c2_i32_4
  let v14 : BitVec 1 := Scalar.ori v12 v13
  let v69 : BitVec 32 := Scalar.extui v14
  let c0_i32_413 : BitVec 32 := 0#32
  let v70 : BitVec 1 := Scalar.cmpi .ne v69 c0_i32_413
  v70

def k0_dev39 (d0 : Dev nD) : Nat :=
  let c0_i32_1053 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1052 : BitVec 32 := 8#32
  let v680 : BitVec 32 := Scalar.muli v2 c8_i32_1052
  let v681 : BitVec 32 := Scalar.addi c0_i32_1053 v680
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1054 : BitVec 32 := 4#32
  let v682 : BitVec 32 := Scalar.muli v5 c4_i32_1054
  let v683 : BitVec 32 := Scalar.addi v681 v682
  let c3_i32 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v16 : BitVec 32 := Scalar.subi c3_i32 v8
  let c1_i32_1055 : BitVec 32 := 1#32
  let v684 : BitVec 32 := Scalar.muli v16 c1_i32_1055
  let v685 : BitVec 32 := Scalar.addi v683 v684
  v685.toNat
def k0_dev40 (d0 : Dev nD) : Nat :=
  let c0_i32_1061 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1060 : BitVec 32 := 8#32
  let v694 : BitVec 32 := Scalar.muli v2 c8_i32_1060
  let v695 : BitVec 32 := Scalar.addi c0_i32_1061 v694
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1062 : BitVec 32 := 4#32
  let v696 : BitVec 32 := Scalar.muli v5 c4_i32_1062
  let v697 : BitVec 32 := Scalar.addi v695 v696
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1063 : BitVec 32 := 1#32
  let v698 : BitVec 32 := Scalar.muli v15 c1_i32_1063
  let v699 : BitVec 32 := Scalar.addi v697 v698
  v699.toNat
def k0_dev41 (d0 : Dev nD) : Nat :=
  let c0_i32_1069 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1068 : BitVec 32 := 8#32
  let v708 : BitVec 32 := Scalar.muli v2 c8_i32_1068
  let v709 : BitVec 32 := Scalar.addi c0_i32_1069 v708
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1070 : BitVec 32 := 4#32
  let v710 : BitVec 32 := Scalar.muli v5 c4_i32_1070
  let v711 : BitVec 32 := Scalar.addi v709 v710
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v17 : BitVec 32 := Scalar.xori v8 c2_i32_6
  let c1_i32_1071 : BitVec 32 := 1#32
  let v712 : BitVec 32 := Scalar.muli v17 c1_i32_1071
  let v713 : BitVec 32 := Scalar.addi v711 v712
  v713.toNat
def k0_dev42 (d0 : Dev nD) : Nat :=
  let c0_i32_1094 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1093 : BitVec 32 := 8#32
  let v742 : BitVec 32 := Scalar.muli v2 c8_i32_1093
  let v743 : BitVec 32 := Scalar.addi c0_i32_1094 v742
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1095 : BitVec 32 := 4#32
  let v744 : BitVec 32 := Scalar.muli v5 c4_i32_1095
  let v745 : BitVec 32 := Scalar.addi v743 v744
  let c3_i32 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v16 : BitVec 32 := Scalar.subi c3_i32 v8
  let c1_i32_1096 : BitVec 32 := 1#32
  let v746 : BitVec 32 := Scalar.muli v16 c1_i32_1096
  let v747 : BitVec 32 := Scalar.addi v745 v746
  v747.toNat
def k0_dev43 (d0 : Dev nD) : Nat :=
  let c0_i32_1102 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1101 : BitVec 32 := 8#32
  let v756 : BitVec 32 := Scalar.muli v2 c8_i32_1101
  let v757 : BitVec 32 := Scalar.addi c0_i32_1102 v756
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1103 : BitVec 32 := 4#32
  let v758 : BitVec 32 := Scalar.muli v5 c4_i32_1103
  let v759 : BitVec 32 := Scalar.addi v757 v758
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1104 : BitVec 32 := 1#32
  let v760 : BitVec 32 := Scalar.muli v15 c1_i32_1104
  let v761 : BitVec 32 := Scalar.addi v759 v760
  v761.toNat
def k0_dev44 (d0 : Dev nD) : Nat :=
  let c0_i32_1110 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1109 : BitVec 32 := 8#32
  let v770 : BitVec 32 := Scalar.muli v2 c8_i32_1109
  let v771 : BitVec 32 := Scalar.addi c0_i32_1110 v770
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1111 : BitVec 32 := 4#32
  let v772 : BitVec 32 := Scalar.muli v5 c4_i32_1111
  let v773 : BitVec 32 := Scalar.addi v771 v772
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v17 : BitVec 32 := Scalar.xori v8 c2_i32_6
  let c1_i32_1112 : BitVec 32 := 1#32
  let v774 : BitVec 32 := Scalar.muli v17 c1_i32_1112
  let v775 : BitVec 32 := Scalar.addi v773 v774
  v775.toNat
def k0_dev45 (d0 : Dev nD) : Nat :=
  let c0_i32_1135 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1134 : BitVec 32 := 8#32
  let v804 : BitVec 32 := Scalar.muli v2 c8_i32_1134
  let v805 : BitVec 32 := Scalar.addi c0_i32_1135 v804
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1136 : BitVec 32 := 4#32
  let v806 : BitVec 32 := Scalar.muli v5 c4_i32_1136
  let v807 : BitVec 32 := Scalar.addi v805 v806
  let c3_i32 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v16 : BitVec 32 := Scalar.subi c3_i32 v8
  let c1_i32_1137 : BitVec 32 := 1#32
  let v808 : BitVec 32 := Scalar.muli v16 c1_i32_1137
  let v809 : BitVec 32 := Scalar.addi v807 v808
  v809.toNat
def k0_dev46 (d0 : Dev nD) : Nat :=
  let c0_i32_1143 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1142 : BitVec 32 := 8#32
  let v818 : BitVec 32 := Scalar.muli v2 c8_i32_1142
  let v819 : BitVec 32 := Scalar.addi c0_i32_1143 v818
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1144 : BitVec 32 := 4#32
  let v820 : BitVec 32 := Scalar.muli v5 c4_i32_1144
  let v821 : BitVec 32 := Scalar.addi v819 v820
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1145 : BitVec 32 := 1#32
  let v822 : BitVec 32 := Scalar.muli v15 c1_i32_1145
  let v823 : BitVec 32 := Scalar.addi v821 v822
  v823.toNat
def k0_dev47 (d0 : Dev nD) : Nat :=
  let c0_i32_1151 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1150 : BitVec 32 := 8#32
  let v832 : BitVec 32 := Scalar.muli v2 c8_i32_1150
  let v833 : BitVec 32 := Scalar.addi c0_i32_1151 v832
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1152 : BitVec 32 := 4#32
  let v834 : BitVec 32 := Scalar.muli v5 c4_i32_1152
  let v835 : BitVec 32 := Scalar.addi v833 v834
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v17 : BitVec 32 := Scalar.xori v8 c2_i32_6
  let c1_i32_1153 : BitVec 32 := 1#32
  let v836 : BitVec 32 := Scalar.muli v17 c1_i32_1153
  let v837 : BitVec 32 := Scalar.addi v835 v836
  v837.toNat
def k0_dev48 (d0 : Dev nD) : Nat :=
  let c0_i32_1176 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1175 : BitVec 32 := 8#32
  let v866 : BitVec 32 := Scalar.muli v2 c8_i32_1175
  let v867 : BitVec 32 := Scalar.addi c0_i32_1176 v866
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1177 : BitVec 32 := 4#32
  let v868 : BitVec 32 := Scalar.muli v5 c4_i32_1177
  let v869 : BitVec 32 := Scalar.addi v867 v868
  let c3_i32 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v16 : BitVec 32 := Scalar.subi c3_i32 v8
  let c1_i32_1178 : BitVec 32 := 1#32
  let v870 : BitVec 32 := Scalar.muli v16 c1_i32_1178
  let v871 : BitVec 32 := Scalar.addi v869 v870
  v871.toNat
def k0_dev49 (d0 : Dev nD) : Nat :=
  let c0_i32_1184 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1183 : BitVec 32 := 8#32
  let v880 : BitVec 32 := Scalar.muli v2 c8_i32_1183
  let v881 : BitVec 32 := Scalar.addi c0_i32_1184 v880
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1185 : BitVec 32 := 4#32
  let v882 : BitVec 32 := Scalar.muli v5 c4_i32_1185
  let v883 : BitVec 32 := Scalar.addi v881 v882
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1186 : BitVec 32 := 1#32
  let v884 : BitVec 32 := Scalar.muli v15 c1_i32_1186
  let v885 : BitVec 32 := Scalar.addi v883 v884
  v885.toNat
def k0_dev50 (d0 : Dev nD) : Nat :=
  let c0_i32_1192 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1191 : BitVec 32 := 8#32
  let v894 : BitVec 32 := Scalar.muli v2 c8_i32_1191
  let v895 : BitVec 32 := Scalar.addi c0_i32_1192 v894
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1193 : BitVec 32 := 4#32
  let v896 : BitVec 32 := Scalar.muli v5 c4_i32_1193
  let v897 : BitVec 32 := Scalar.addi v895 v896
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v17 : BitVec 32 := Scalar.xori v8 c2_i32_6
  let c1_i32_1194 : BitVec 32 := 1#32
  let v898 : BitVec 32 := Scalar.muli v17 c1_i32_1194
  let v899 : BitVec 32 := Scalar.addi v897 v898
  v899.toNat
def k0_dev51 (d0 : Dev nD) : Nat :=
  let c0_i32_1217 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1216 : BitVec 32 := 8#32
  let v928 : BitVec 32 := Scalar.muli v2 c8_i32_1216
  let v929 : BitVec 32 := Scalar.addi c0_i32_1217 v928
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1218 : BitVec 32 := 4#32
  let v930 : BitVec 32 := Scalar.muli v5 c4_i32_1218
  let v931 : BitVec 32 := Scalar.addi v929 v930
  let c3_i32 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v16 : BitVec 32 := Scalar.subi c3_i32 v8
  let c1_i32_1219 : BitVec 32 := 1#32
  let v932 : BitVec 32 := Scalar.muli v16 c1_i32_1219
  let v933 : BitVec 32 := Scalar.addi v931 v932
  v933.toNat
def k0_dev52 (d0 : Dev nD) : Nat :=
  let c0_i32_1225 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1224 : BitVec 32 := 8#32
  let v942 : BitVec 32 := Scalar.muli v2 c8_i32_1224
  let v943 : BitVec 32 := Scalar.addi c0_i32_1225 v942
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1226 : BitVec 32 := 4#32
  let v944 : BitVec 32 := Scalar.muli v5 c4_i32_1226
  let v945 : BitVec 32 := Scalar.addi v943 v944
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1227 : BitVec 32 := 1#32
  let v946 : BitVec 32 := Scalar.muli v15 c1_i32_1227
  let v947 : BitVec 32 := Scalar.addi v945 v946
  v947.toNat
def k0_dev53 (d0 : Dev nD) : Nat :=
  let c0_i32_1233 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1232 : BitVec 32 := 8#32
  let v956 : BitVec 32 := Scalar.muli v2 c8_i32_1232
  let v957 : BitVec 32 := Scalar.addi c0_i32_1233 v956
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1234 : BitVec 32 := 4#32
  let v958 : BitVec 32 := Scalar.muli v5 c4_i32_1234
  let v959 : BitVec 32 := Scalar.addi v957 v958
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v17 : BitVec 32 := Scalar.xori v8 c2_i32_6
  let c1_i32_1235 : BitVec 32 := 1#32
  let v960 : BitVec 32 := Scalar.muli v17 c1_i32_1235
  let v961 : BitVec 32 := Scalar.addi v959 v960
  v961.toNat
def k0_dev54 (d0 : Dev nD) : Nat :=
  let c0_i32_1258 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1257 : BitVec 32 := 8#32
  let v990 : BitVec 32 := Scalar.muli v2 c8_i32_1257
  let v991 : BitVec 32 := Scalar.addi c0_i32_1258 v990
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1259 : BitVec 32 := 4#32
  let v992 : BitVec 32 := Scalar.muli v5 c4_i32_1259
  let v993 : BitVec 32 := Scalar.addi v991 v992
  let c3_i32 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v16 : BitVec 32 := Scalar.subi c3_i32 v8
  let c1_i32_1260 : BitVec 32 := 1#32
  let v994 : BitVec 32 := Scalar.muli v16 c1_i32_1260
  let v995 : BitVec 32 := Scalar.addi v993 v994
  v995.toNat
def k0_dev55 (d0 : Dev nD) : Nat :=
  let c0_i32_1266 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1265 : BitVec 32 := 8#32
  let v1004 : BitVec 32 := Scalar.muli v2 c8_i32_1265
  let v1005 : BitVec 32 := Scalar.addi c0_i32_1266 v1004
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1267 : BitVec 32 := 4#32
  let v1006 : BitVec 32 := Scalar.muli v5 c4_i32_1267
  let v1007 : BitVec 32 := Scalar.addi v1005 v1006
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1268 : BitVec 32 := 1#32
  let v1008 : BitVec 32 := Scalar.muli v15 c1_i32_1268
  let v1009 : BitVec 32 := Scalar.addi v1007 v1008
  v1009.toNat
def k0_dev56 (d0 : Dev nD) : Nat :=
  let c0_i32_1274 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1273 : BitVec 32 := 8#32
  let v1018 : BitVec 32 := Scalar.muli v2 c8_i32_1273
  let v1019 : BitVec 32 := Scalar.addi c0_i32_1274 v1018
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1275 : BitVec 32 := 4#32
  let v1020 : BitVec 32 := Scalar.muli v5 c4_i32_1275
  let v1021 : BitVec 32 := Scalar.addi v1019 v1020
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v17 : BitVec 32 := Scalar.xori v8 c2_i32_6
  let c1_i32_1276 : BitVec 32 := 1#32
  let v1022 : BitVec 32 := Scalar.muli v17 c1_i32_1276
  let v1023 : BitVec 32 := Scalar.addi v1021 v1022
  v1023.toNat
def k0_dev57 (d0 : Dev nD) : Nat :=
  let c0_i32_1299 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1298 : BitVec 32 := 8#32
  let v1052 : BitVec 32 := Scalar.muli v2 c8_i32_1298
  let v1053 : BitVec 32 := Scalar.addi c0_i32_1299 v1052
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1300 : BitVec 32 := 4#32
  let v1054 : BitVec 32 := Scalar.muli v5 c4_i32_1300
  let v1055 : BitVec 32 := Scalar.addi v1053 v1054
  let c3_i32 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v16 : BitVec 32 := Scalar.subi c3_i32 v8
  let c1_i32_1301 : BitVec 32 := 1#32
  let v1056 : BitVec 32 := Scalar.muli v16 c1_i32_1301
  let v1057 : BitVec 32 := Scalar.addi v1055 v1056
  v1057.toNat
def k0_dev58 (d0 : Dev nD) : Nat :=
  let c0_i32_1307 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1306 : BitVec 32 := 8#32
  let v1066 : BitVec 32 := Scalar.muli v2 c8_i32_1306
  let v1067 : BitVec 32 := Scalar.addi c0_i32_1307 v1066
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1308 : BitVec 32 := 4#32
  let v1068 : BitVec 32 := Scalar.muli v5 c4_i32_1308
  let v1069 : BitVec 32 := Scalar.addi v1067 v1068
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1309 : BitVec 32 := 1#32
  let v1070 : BitVec 32 := Scalar.muli v15 c1_i32_1309
  let v1071 : BitVec 32 := Scalar.addi v1069 v1070
  v1071.toNat
def k0_dev59 (d0 : Dev nD) : Nat :=
  let c0_i32_1315 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1314 : BitVec 32 := 8#32
  let v1080 : BitVec 32 := Scalar.muli v2 c8_i32_1314
  let v1081 : BitVec 32 := Scalar.addi c0_i32_1315 v1080
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1316 : BitVec 32 := 4#32
  let v1082 : BitVec 32 := Scalar.muli v5 c4_i32_1316
  let v1083 : BitVec 32 := Scalar.addi v1081 v1082
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v17 : BitVec 32 := Scalar.xori v8 c2_i32_6
  let c1_i32_1317 : BitVec 32 := 1#32
  let v1084 : BitVec 32 := Scalar.muli v17 c1_i32_1317
  let v1085 : BitVec 32 := Scalar.addi v1083 v1084
  v1085.toNat
def k0_dev60 (d0 : Dev nD) : Nat :=
  let c0_i32_1340 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1339 : BitVec 32 := 8#32
  let v1114 : BitVec 32 := Scalar.muli v2 c8_i32_1339
  let v1115 : BitVec 32 := Scalar.addi c0_i32_1340 v1114
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1341 : BitVec 32 := 4#32
  let v1116 : BitVec 32 := Scalar.muli v5 c4_i32_1341
  let v1117 : BitVec 32 := Scalar.addi v1115 v1116
  let c3_i32 : BitVec 32 := 3#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v16 : BitVec 32 := Scalar.subi c3_i32 v8
  let c1_i32_1342 : BitVec 32 := 1#32
  let v1118 : BitVec 32 := Scalar.muli v16 c1_i32_1342
  let v1119 : BitVec 32 := Scalar.addi v1117 v1118
  v1119.toNat
def k0_dev61 (d0 : Dev nD) : Nat :=
  let c0_i32_1348 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1347 : BitVec 32 := 8#32
  let v1128 : BitVec 32 := Scalar.muli v2 c8_i32_1347
  let v1129 : BitVec 32 := Scalar.addi c0_i32_1348 v1128
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1349 : BitVec 32 := 4#32
  let v1130 : BitVec 32 := Scalar.muli v5 c4_i32_1349
  let v1131 : BitVec 32 := Scalar.addi v1129 v1130
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v15 : BitVec 32 := Scalar.xori v8 c1_i32_5
  let c1_i32_1350 : BitVec 32 := 1#32
  let v1132 : BitVec 32 := Scalar.muli v15 c1_i32_1350
  let v1133 : BitVec 32 := Scalar.addi v1131 v1132
  v1133.toNat
def k0_dev62 (d0 : Dev nD) : Nat :=
  let c0_i32_1356 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1355 : BitVec 32 := 8#32
  let v1142 : BitVec 32 := Scalar.muli v2 c8_i32_1355
  let v1143 : BitVec 32 := Scalar.addi c0_i32_1356 v1142
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1357 : BitVec 32 := 4#32
  let v1144 : BitVec 32 := Scalar.muli v5 c4_i32_1357
  let v1145 : BitVec 32 := Scalar.addi v1143 v1144
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_6 : BitVec 32 := 2#32
  let v17 : BitVec 32 := Scalar.xori v8 c2_i32_6
  let c1_i32_1358 : BitVec 32 := 1#32
  let v1146 : BitVec 32 := Scalar.muli v17 c1_i32_1358
  let v1147 : BitVec 32 := Scalar.addi v1145 v1146
  v1147.toNat
def k0_off3 (d0 : Dev nD) (c0_i32_1377 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c256_i32 : BitVec 32 := 256#32
  let v11 : BitVec 32 := Scalar.muli v10 c256_i32
  let v1174 : BitVec 32 := Scalar.addi v11 c0_i32_1377
  let v1175 : Index := Scalar.indexCast v1174
  let c0_1378 : Index := 0#32
  ![v1175.toNat, 0]
def k0_dev63 (d0 : Dev nD) : Nat :=
  let c0_i32_1389 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1388 : BitVec 32 := 8#32
  let v1203 : BitVec 32 := Scalar.muli v18 c8_i32_1388
  let v1204 : BitVec 32 := Scalar.addi c0_i32_1389 v1203
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1390 : BitVec 32 := 4#32
  let v1205 : BitVec 32 := Scalar.muli v5 c4_i32_1390
  let v1206 : BitVec 32 := Scalar.addi v1204 v1205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1391 : BitVec 32 := 1#32
  let v1207 : BitVec 32 := Scalar.muli v8 c1_i32_1391
  let v1208 : BitVec 32 := Scalar.addi v1206 v1207
  v1208.toNat
def k0_dev64 (d0 : Dev nD) : Nat :=
  let c0_i32_1397 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1396 : BitVec 32 := 8#32
  let v1217 : BitVec 32 := Scalar.muli v2 c8_i32_1396
  let v1218 : BitVec 32 := Scalar.addi c0_i32_1397 v1217
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1398 : BitVec 32 := 4#32
  let v1219 : BitVec 32 := Scalar.muli v19 c4_i32_1398
  let v1220 : BitVec 32 := Scalar.addi v1218 v1219
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1399 : BitVec 32 := 1#32
  let v1221 : BitVec 32 := Scalar.muli v8 c1_i32_1399
  let v1222 : BitVec 32 := Scalar.addi v1220 v1221
  v1222.toNat
def k0_dev65 (d0 : Dev nD) : Nat :=
  let c0_i32_1405 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1404 : BitVec 32 := 8#32
  let v1231 : BitVec 32 := Scalar.muli v20 c8_i32_1404
  let v1232 : BitVec 32 := Scalar.addi c0_i32_1405 v1231
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1406 : BitVec 32 := 4#32
  let v1233 : BitVec 32 := Scalar.muli v21 c4_i32_1406
  let v1234 : BitVec 32 := Scalar.addi v1232 v1233
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1407 : BitVec 32 := 1#32
  let v1235 : BitVec 32 := Scalar.muli v8 c1_i32_1407
  let v1236 : BitVec 32 := Scalar.addi v1234 v1235
  v1236.toNat
def k0_dev66 (d0 : Dev nD) : Nat :=
  let c0_i32_1439 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1438 : BitVec 32 := 8#32
  let v1292 : BitVec 32 := Scalar.muli v18 c8_i32_1438
  let v1293 : BitVec 32 := Scalar.addi c0_i32_1439 v1292
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1440 : BitVec 32 := 4#32
  let v1294 : BitVec 32 := Scalar.muli v5 c4_i32_1440
  let v1295 : BitVec 32 := Scalar.addi v1293 v1294
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1441 : BitVec 32 := 1#32
  let v1296 : BitVec 32 := Scalar.muli v8 c1_i32_1441
  let v1297 : BitVec 32 := Scalar.addi v1295 v1296
  v1297.toNat
def k0_dev67 (d0 : Dev nD) : Nat :=
  let c0_i32_1447 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1446 : BitVec 32 := 8#32
  let v1306 : BitVec 32 := Scalar.muli v2 c8_i32_1446
  let v1307 : BitVec 32 := Scalar.addi c0_i32_1447 v1306
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1448 : BitVec 32 := 4#32
  let v1308 : BitVec 32 := Scalar.muli v19 c4_i32_1448
  let v1309 : BitVec 32 := Scalar.addi v1307 v1308
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1449 : BitVec 32 := 1#32
  let v1310 : BitVec 32 := Scalar.muli v8 c1_i32_1449
  let v1311 : BitVec 32 := Scalar.addi v1309 v1310
  v1311.toNat
def k0_dev68 (d0 : Dev nD) : Nat :=
  let c0_i32_1455 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1454 : BitVec 32 := 8#32
  let v1320 : BitVec 32 := Scalar.muli v20 c8_i32_1454
  let v1321 : BitVec 32 := Scalar.addi c0_i32_1455 v1320
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1456 : BitVec 32 := 4#32
  let v1322 : BitVec 32 := Scalar.muli v21 c4_i32_1456
  let v1323 : BitVec 32 := Scalar.addi v1321 v1322
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1457 : BitVec 32 := 1#32
  let v1324 : BitVec 32 := Scalar.muli v8 c1_i32_1457
  let v1325 : BitVec 32 := Scalar.addi v1323 v1324
  v1325.toNat
def k0_dev69 (d0 : Dev nD) : Nat :=
  let c0_i32_1489 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1488 : BitVec 32 := 8#32
  let v1381 : BitVec 32 := Scalar.muli v18 c8_i32_1488
  let v1382 : BitVec 32 := Scalar.addi c0_i32_1489 v1381
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1490 : BitVec 32 := 4#32
  let v1383 : BitVec 32 := Scalar.muli v5 c4_i32_1490
  let v1384 : BitVec 32 := Scalar.addi v1382 v1383
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1491 : BitVec 32 := 1#32
  let v1385 : BitVec 32 := Scalar.muli v8 c1_i32_1491
  let v1386 : BitVec 32 := Scalar.addi v1384 v1385
  v1386.toNat
def k0_dev70 (d0 : Dev nD) : Nat :=
  let c0_i32_1497 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1496 : BitVec 32 := 8#32
  let v1395 : BitVec 32 := Scalar.muli v2 c8_i32_1496
  let v1396 : BitVec 32 := Scalar.addi c0_i32_1497 v1395
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1498 : BitVec 32 := 4#32
  let v1397 : BitVec 32 := Scalar.muli v19 c4_i32_1498
  let v1398 : BitVec 32 := Scalar.addi v1396 v1397
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1499 : BitVec 32 := 1#32
  let v1399 : BitVec 32 := Scalar.muli v8 c1_i32_1499
  let v1400 : BitVec 32 := Scalar.addi v1398 v1399
  v1400.toNat
def k0_dev71 (d0 : Dev nD) : Nat :=
  let c0_i32_1505 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1504 : BitVec 32 := 8#32
  let v1409 : BitVec 32 := Scalar.muli v20 c8_i32_1504
  let v1410 : BitVec 32 := Scalar.addi c0_i32_1505 v1409
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1506 : BitVec 32 := 4#32
  let v1411 : BitVec 32 := Scalar.muli v21 c4_i32_1506
  let v1412 : BitVec 32 := Scalar.addi v1410 v1411
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1507 : BitVec 32 := 1#32
  let v1413 : BitVec 32 := Scalar.muli v8 c1_i32_1507
  let v1414 : BitVec 32 := Scalar.addi v1412 v1413
  v1414.toNat
def k0_dev72 (d0 : Dev nD) : Nat :=
  let c0_i32_1539 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1538 : BitVec 32 := 8#32
  let v1470 : BitVec 32 := Scalar.muli v18 c8_i32_1538
  let v1471 : BitVec 32 := Scalar.addi c0_i32_1539 v1470
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1540 : BitVec 32 := 4#32
  let v1472 : BitVec 32 := Scalar.muli v5 c4_i32_1540
  let v1473 : BitVec 32 := Scalar.addi v1471 v1472
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1541 : BitVec 32 := 1#32
  let v1474 : BitVec 32 := Scalar.muli v8 c1_i32_1541
  let v1475 : BitVec 32 := Scalar.addi v1473 v1474
  v1475.toNat
def k0_dev73 (d0 : Dev nD) : Nat :=
  let c0_i32_1547 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1546 : BitVec 32 := 8#32
  let v1484 : BitVec 32 := Scalar.muli v2 c8_i32_1546
  let v1485 : BitVec 32 := Scalar.addi c0_i32_1547 v1484
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1548 : BitVec 32 := 4#32
  let v1486 : BitVec 32 := Scalar.muli v19 c4_i32_1548
  let v1487 : BitVec 32 := Scalar.addi v1485 v1486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1549 : BitVec 32 := 1#32
  let v1488 : BitVec 32 := Scalar.muli v8 c1_i32_1549
  let v1489 : BitVec 32 := Scalar.addi v1487 v1488
  v1489.toNat
def k0_dev74 (d0 : Dev nD) : Nat :=
  let c0_i32_1555 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1554 : BitVec 32 := 8#32
  let v1498 : BitVec 32 := Scalar.muli v20 c8_i32_1554
  let v1499 : BitVec 32 := Scalar.addi c0_i32_1555 v1498
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1556 : BitVec 32 := 4#32
  let v1500 : BitVec 32 := Scalar.muli v21 c4_i32_1556
  let v1501 : BitVec 32 := Scalar.addi v1499 v1500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1557 : BitVec 32 := 1#32
  let v1502 : BitVec 32 := Scalar.muli v8 c1_i32_1557
  let v1503 : BitVec 32 := Scalar.addi v1501 v1502
  v1503.toNat
def k0_dev75 (d0 : Dev nD) : Nat :=
  let c0_i32_1589 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1588 : BitVec 32 := 8#32
  let v1559 : BitVec 32 := Scalar.muli v18 c8_i32_1588
  let v1560 : BitVec 32 := Scalar.addi c0_i32_1589 v1559
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1590 : BitVec 32 := 4#32
  let v1561 : BitVec 32 := Scalar.muli v5 c4_i32_1590
  let v1562 : BitVec 32 := Scalar.addi v1560 v1561
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1591 : BitVec 32 := 1#32
  let v1563 : BitVec 32 := Scalar.muli v8 c1_i32_1591
  let v1564 : BitVec 32 := Scalar.addi v1562 v1563
  v1564.toNat
def k0_dev76 (d0 : Dev nD) : Nat :=
  let c0_i32_1597 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1596 : BitVec 32 := 8#32
  let v1573 : BitVec 32 := Scalar.muli v2 c8_i32_1596
  let v1574 : BitVec 32 := Scalar.addi c0_i32_1597 v1573
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1598 : BitVec 32 := 4#32
  let v1575 : BitVec 32 := Scalar.muli v19 c4_i32_1598
  let v1576 : BitVec 32 := Scalar.addi v1574 v1575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1599 : BitVec 32 := 1#32
  let v1577 : BitVec 32 := Scalar.muli v8 c1_i32_1599
  let v1578 : BitVec 32 := Scalar.addi v1576 v1577
  v1578.toNat
def k0_dev77 (d0 : Dev nD) : Nat :=
  let c0_i32_1605 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1604 : BitVec 32 := 8#32
  let v1587 : BitVec 32 := Scalar.muli v20 c8_i32_1604
  let v1588 : BitVec 32 := Scalar.addi c0_i32_1605 v1587
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1606 : BitVec 32 := 4#32
  let v1589 : BitVec 32 := Scalar.muli v21 c4_i32_1606
  let v1590 : BitVec 32 := Scalar.addi v1588 v1589
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1607 : BitVec 32 := 1#32
  let v1591 : BitVec 32 := Scalar.muli v8 c1_i32_1607
  let v1592 : BitVec 32 := Scalar.addi v1590 v1591
  v1592.toNat
def k0_dev78 (d0 : Dev nD) : Nat :=
  let c0_i32_1639 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1638 : BitVec 32 := 8#32
  let v1648 : BitVec 32 := Scalar.muli v18 c8_i32_1638
  let v1649 : BitVec 32 := Scalar.addi c0_i32_1639 v1648
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1640 : BitVec 32 := 4#32
  let v1650 : BitVec 32 := Scalar.muli v5 c4_i32_1640
  let v1651 : BitVec 32 := Scalar.addi v1649 v1650
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1641 : BitVec 32 := 1#32
  let v1652 : BitVec 32 := Scalar.muli v8 c1_i32_1641
  let v1653 : BitVec 32 := Scalar.addi v1651 v1652
  v1653.toNat
def k0_dev79 (d0 : Dev nD) : Nat :=
  let c0_i32_1647 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1646 : BitVec 32 := 8#32
  let v1662 : BitVec 32 := Scalar.muli v2 c8_i32_1646
  let v1663 : BitVec 32 := Scalar.addi c0_i32_1647 v1662
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1648 : BitVec 32 := 4#32
  let v1664 : BitVec 32 := Scalar.muli v19 c4_i32_1648
  let v1665 : BitVec 32 := Scalar.addi v1663 v1664
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1649 : BitVec 32 := 1#32
  let v1666 : BitVec 32 := Scalar.muli v8 c1_i32_1649
  let v1667 : BitVec 32 := Scalar.addi v1665 v1666
  v1667.toNat
def k0_dev80 (d0 : Dev nD) : Nat :=
  let c0_i32_1655 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1654 : BitVec 32 := 8#32
  let v1676 : BitVec 32 := Scalar.muli v20 c8_i32_1654
  let v1677 : BitVec 32 := Scalar.addi c0_i32_1655 v1676
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1656 : BitVec 32 := 4#32
  let v1678 : BitVec 32 := Scalar.muli v21 c4_i32_1656
  let v1679 : BitVec 32 := Scalar.addi v1677 v1678
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1657 : BitVec 32 := 1#32
  let v1680 : BitVec 32 := Scalar.muli v8 c1_i32_1657
  let v1681 : BitVec 32 := Scalar.addi v1679 v1680
  v1681.toNat
def k0_dev81 (d0 : Dev nD) : Nat :=
  let c0_i32_1689 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1688 : BitVec 32 := 8#32
  let v1737 : BitVec 32 := Scalar.muli v18 c8_i32_1688
  let v1738 : BitVec 32 := Scalar.addi c0_i32_1689 v1737
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1690 : BitVec 32 := 4#32
  let v1739 : BitVec 32 := Scalar.muli v5 c4_i32_1690
  let v1740 : BitVec 32 := Scalar.addi v1738 v1739
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1691 : BitVec 32 := 1#32
  let v1741 : BitVec 32 := Scalar.muli v8 c1_i32_1691
  let v1742 : BitVec 32 := Scalar.addi v1740 v1741
  v1742.toNat
def k0_dev82 (d0 : Dev nD) : Nat :=
  let c0_i32_1697 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1696 : BitVec 32 := 8#32
  let v1751 : BitVec 32 := Scalar.muli v2 c8_i32_1696
  let v1752 : BitVec 32 := Scalar.addi c0_i32_1697 v1751
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1698 : BitVec 32 := 4#32
  let v1753 : BitVec 32 := Scalar.muli v19 c4_i32_1698
  let v1754 : BitVec 32 := Scalar.addi v1752 v1753
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1699 : BitVec 32 := 1#32
  let v1755 : BitVec 32 := Scalar.muli v8 c1_i32_1699
  let v1756 : BitVec 32 := Scalar.addi v1754 v1755
  v1756.toNat
def k0_dev83 (d0 : Dev nD) : Nat :=
  let c0_i32_1705 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1704 : BitVec 32 := 8#32
  let v1765 : BitVec 32 := Scalar.muli v20 c8_i32_1704
  let v1766 : BitVec 32 := Scalar.addi c0_i32_1705 v1765
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1706 : BitVec 32 := 4#32
  let v1767 : BitVec 32 := Scalar.muli v21 c4_i32_1706
  let v1768 : BitVec 32 := Scalar.addi v1766 v1767
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1707 : BitVec 32 := 1#32
  let v1769 : BitVec 32 := Scalar.muli v8 c1_i32_1707
  let v1770 : BitVec 32 := Scalar.addi v1768 v1769
  v1770.toNat
def k0_dev84 (d0 : Dev nD) : Nat :=
  let c0_i32_1739 : BitVec 32 := 0#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v18 : BitVec 32 := Scalar.subi c1_i32_7 v2
  let c8_i32_1738 : BitVec 32 := 8#32
  let v1826 : BitVec 32 := Scalar.muli v18 c8_i32_1738
  let v1827 : BitVec 32 := Scalar.addi c0_i32_1739 v1826
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1740 : BitVec 32 := 4#32
  let v1828 : BitVec 32 := Scalar.muli v5 c4_i32_1740
  let v1829 : BitVec 32 := Scalar.addi v1827 v1828
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1741 : BitVec 32 := 1#32
  let v1830 : BitVec 32 := Scalar.muli v8 c1_i32_1741
  let v1831 : BitVec 32 := Scalar.addi v1829 v1830
  v1831.toNat
def k0_dev85 (d0 : Dev nD) : Nat :=
  let c0_i32_1747 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1746 : BitVec 32 := 8#32
  let v1840 : BitVec 32 := Scalar.muli v2 c8_i32_1746
  let v1841 : BitVec 32 := Scalar.addi c0_i32_1747 v1840
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_8 v5
  let c4_i32_1748 : BitVec 32 := 4#32
  let v1842 : BitVec 32 := Scalar.muli v19 c4_i32_1748
  let v1843 : BitVec 32 := Scalar.addi v1841 v1842
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1749 : BitVec 32 := 1#32
  let v1844 : BitVec 32 := Scalar.muli v8 c1_i32_1749
  let v1845 : BitVec 32 := Scalar.addi v1843 v1844
  v1845.toNat
def k0_dev86 (d0 : Dev nD) : Nat :=
  let c0_i32_1755 : BitVec 32 := 0#32
  let c1_i32_9 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v20 : BitVec 32 := Scalar.subi c1_i32_9 v2
  let c8_i32_1754 : BitVec 32 := 8#32
  let v1854 : BitVec 32 := Scalar.muli v20 c8_i32_1754
  let v1855 : BitVec 32 := Scalar.addi c0_i32_1755 v1854
  let c1_i32_10 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v21 : BitVec 32 := Scalar.subi c1_i32_10 v5
  let c4_i32_1756 : BitVec 32 := 4#32
  let v1856 : BitVec 32 := Scalar.muli v21 c4_i32_1756
  let v1857 : BitVec 32 := Scalar.addi v1855 v1856
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1757 : BitVec 32 := 1#32
  let v1858 : BitVec 32 := Scalar.muli v8 c1_i32_1757
  let v1859 : BitVec 32 := Scalar.addi v1857 v1858
  v1859.toNat
def k0_off4 (d0 : Dev nD) (c0_i32_439 : BitVec 32) : Fin 2 → Nat :=
  let c2_i32_415 : BitVec 32 := 2#32
  let c1_i32_414 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v71 : BitVec 32 := Scalar.subi c1_i32_414 v2
  let v72 : BitVec 32 := Scalar.muli c2_i32_415 v71
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v73 : BitVec 32 := Scalar.addi v72 v5
  let c256_i32_416 : BitVec 32 := 256#32
  let v74 : BitVec 32 := Scalar.muli v73 c256_i32_416
  let v99 : BitVec 32 := Scalar.addi v74 c0_i32_439
  let v100 : Index := Scalar.indexCast v99
  let c0_440 : Index := 0#32
  ![v100.toNat, 0]
def k0_off5 (d0 : Dev nD) (c0_i32_456 : BitVec 32) : Fin 2 → Nat :=
  let c2_i32_417 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v75 : BitVec 32 := Scalar.muli c2_i32_417 v2
  let c1_i32_418 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v76 : BitVec 32 := Scalar.subi c1_i32_418 v5
  let v77 : BitVec 32 := Scalar.addi v75 v76
  let c256_i32_419 : BitVec 32 := 256#32
  let v78 : BitVec 32 := Scalar.muli v77 c256_i32_419
  let v117 : BitVec 32 := Scalar.addi v78 c0_i32_456
  let v118 : Index := Scalar.indexCast v117
  let c0_457 : Index := 0#32
  ![v118.toNat, 0]
def k0_off6 (d0 : Dev nD) (c0_i32_473 : BitVec 32) : Fin 2 → Nat :=
  let c2_i32_421 : BitVec 32 := 2#32
  let c1_i32_420 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v79 : BitVec 32 := Scalar.subi c1_i32_420 v2
  let v80 : BitVec 32 := Scalar.muli c2_i32_421 v79
  let c1_i32_422 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v81 : BitVec 32 := Scalar.subi c1_i32_422 v5
  let v82 : BitVec 32 := Scalar.addi v80 v81
  let c256_i32_423 : BitVec 32 := 256#32
  let v83 : BitVec 32 := Scalar.muli v82 c256_i32_423
  let v135 : BitVec 32 := Scalar.addi v83 c0_i32_473
  let v136 : Index := Scalar.indexCast v135
  let c0_474 : Index := 0#32
  ![v136.toNat, 0]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x1024x1024 : Shape := ⟨3, ![4, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1024x1 : Shape := ⟨2, ![1024, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S1024x1024, .bf16⟩
  | .hbm, ⟨2, _⟩ => ⟨S1x1024, .bf16⟩
  | .hbm, ⟨3, _⟩ => ⟨S4x1024x1024, .f32⟩
  | .hbm, ⟨4, _⟩ => ⟨S1024x1024, .f32⟩
  | .hbm, ⟨5, _⟩ => ⟨S1024, .bf16⟩
  | .hbm, ⟨6, _⟩ => ⟨S1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S_, .f32⟩
  | .hbm, ⟨15, _⟩ => ⟨S1024x1, .f32⟩
  | .hbm, ⟨16, _⟩ => ⟨S1024x1, .f32⟩
  | .hbm, ⟨17, _⟩ => ⟨S_, .f32⟩
  | .hbm, ⟨18, _⟩ => ⟨S1024x1, .f32⟩
  | .hbm, ⟨19, _⟩ => ⟨S1024x1, .f32⟩
  | .hbm, ⟨20, _⟩ => ⟨S1024x1, .f32⟩
  | .hbm, ⟨21, _⟩ => ⟨S1024x1024, .f32⟩
  | .hbm, ⟨22, _⟩ => ⟨S1024x1024, .f32⟩
  | .hbm, ⟨23, _⟩ => ⟨S1x1024, .f32⟩
  | .hbm, ⟨24, _⟩ => ⟨S1024x1024, .f32⟩
  | .hbm, ⟨25, _⟩ => ⟨S1024x1024, .f32⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Program.lean ====
/-
The kernel of this problem as a program with loops. The printed program has its sub-steps unrolled and cut into
parts; here each kind of sub-step is written once, over the eight sub-steps, and the printed body is shown equal to it.
-/
module

public import proofs.«01_k».proof.Proof.Gen.KernelIdeal.Skeleton
public import proofs.«01_k».proof.Proof.Gen.KernelIdeal.Points
public import Idealize.ShloMosaic.Lib.Tactic

@[expose] public section

noncomputable section

namespace Cert.KernelIdeal.Own

open Idealize.ShloMosaic Idealize.ShloMosaic.TcCoe Idealize.SL.Sem
open Cert.KernelIdeal Cert.KernelIdeal.Gen

variable {F : FTy → Type} [FloatOps F]

/-! ## Programs, buffers and semaphores -/

/-- A program of the kernel's core. -/
abbrev KProg (F : FTy → Type) := Prog (TpuEff nD τ sig (Elt F) Λ₀ .tc)
/-- A buffer of eight row blocks of 32 rows. -/
abbrev Buf8 : Type := Memref sig .tc .vmem S8x32x1024 .bf16

abbrev xM : Memref sig .tc .vmem S1x1024x1024 .bf16 := Memref.whole cc0_stg0_0
abbrev rM : Memref sig .tc .vmem S1024x1024 .bf16 := Memref.whole cc0_stg1_0
abbrev gM : Memref sig .tc .vmem S1x1024 .bf16 := Memref.whole cc0_stg2_0
abbrev oM : Memref sig .tc .vmem S1024x1024 .f32 := Memref.whole cc0_stg3_0
abbrev myM : Buf8 := Memref.whole cc0_scratch0
abbrev s1M : Buf8 := Memref.whole cc0_scratch1
abbrev poM : Buf8 := Memref.whole cc0_scratch2
abbrev piM : Buf8 := Memref.whole cc0_scratch3
abbrev pnM : Buf8 := Memref.whole cc0_scratch4
abbrev pfM : Buf8 := Memref.whole cc0_scratch5
abbrev lnM : Buf8 := Memref.whole cc0_scratch6
abbrev qxM : Buf8 := Memref.whole cc0_scratch7
abbrev qyM : Buf8 := Memref.whole cc0_scratch8
abbrev qdM : Buf8 := Memref.whole cc0_scratch9

/-- Every row block lies inside its buffer. -/
theorem rowInb : ∀ s : Fin 8, ∀ a, (![s.val, 0, 0] : Fin 3 → Nat) a + S1x32x1024.size a ≤ S8x32x1024.size a := by decide
/-- The rectangle of row block `s`. -/
abbrev rowRect (s : Fin 8) : Rect S8x32x1024 := Rect.unit (s := S8x32x1024) ![s.val, 0, 0] S1x32x1024.size (rowInb s)
/-- A row block consists of whole words. -/
theorem rowWords (s : Fin 8) : (rowRect s).WholeWords (EltTy.packing .bf16) := by revert s; decide
/-- A row block consists of packed rows. -/
theorem rowPacked (s : Fin 8) : (rowRect s).PackedRows (EltTy.packing .bf16) := by revert s; decide

/-- Row block `s` of a buffer, as the copies name it. -/
abbrev row (A : Buf8) (s : Fin 8) : Memref sig .tc .vmem S32x1024 .bf16 :=
  (A.slice (rowRect s) (fun _ => rfl)).squeeze S32x1024 squeezes_S1x32x1024_S32x1024

theorem rowExact (A : Buf8) (hA : A.IsWhole) (s : Fin 8) : (row A s).view.WordExact :=
  (hA.wordExact_slice rfl _ (rowWords s)).reshape _ _

/-- The semaphore of the sending side of copy kind `k` of sub-step `s`, and of the receiving side. -/
def sndSem (s : Fin 8) (k : Fin 7) : DmaSem sig := ⟨4 + (7 * s.val + k.val), by have := s.isLt; have := k.isLt; show _ < 116; omega⟩
def rcvSem (s : Fin 8) (k : Fin 7) : DmaSem sig := ⟨60 + (7 * s.val + k.val), by have := s.isLt; have := k.isLt; show _ < 116; omega⟩
/-- The runtime's barrier semaphore. -/
abbrev barS : Sem sig := (SemArray.scalar (sig.barrier 0 rfl) : Sems sig S_).sem

/-! ## The single operations -/

/-- Start the copy of row block `s` of `A` into row block `s` of `B` on device `c`. -/
def sendRow (k : Fin 7) (s : Fin 8) (A B : Buf8) (hA : A.IsWhole) (hB : B.IsWhole) (c : Dev nD) : KProg F PUnit :=
  Prog.lift (.enqueueDma (row A s) (.remote (Dev.tc c) (row B s) (.dma (sndSem s k))) (.dma (rcvSem s k))
    (rowExact A hA s) (rowExact B hB s) ⟨⟨rfl, Or.inl rfl⟩, trivial⟩)
/-- Wait on a semaphore for one row block. -/
def waitRow (sm : DmaSem sig) (s : Fin 8) (A B : Buf8) (hA : A.IsWhole) (hB : B.IsWhole) : KProg F PUnit :=
  Prog.lift (.waitDma2 sm (row A s) (row B s) (rowExact A hA s) (rowExact B hB s))
/-- Load row block `s` of `A`. -/
def loadRow (s : Fin 8) (A : Buf8) : KProg F (Vec F S1x32x1024 .bf16) :=
  Prog.lift (.load A (rowRect s).toLoadRect (View.loadsAt_vmem h_S1x32x1024))
/-- Store row block `s` of `A`. -/
def storeRow (s : Fin 8) (A : Buf8) (hA : A.IsWhole) (v : FVec F S1x32x1024 .bf16) : KProg F PUnit :=
  Prog.lift (.store A (rowRect s) v Finset.univ
    (View.stores_vmem h_S1x32x1024 (hA.storeExact_slice rfl _ (rowPacked s)) (fun _ => rfl)) (.inl rfl))

/-- The 32 rows at an offset of a result-shaped buffer. -/
abbrev outRect (off : Fin 2 → Nat) (h : ∀ a, off a + S32x1024.size a ≤ S1024x1024.size a) : Rect S1024x1024 :=
  Rect.unit (s := S1024x1024) off S32x1024.size h
/-- Load 32 rows of the residual. -/
def loadRes (off : Fin 2 → Nat) (h : ∀ a, off a + S32x1024.size a ≤ S1024x1024.size a) : KProg F (Vec F S32x1024 .bf16) :=
  Prog.lift (.load rM (outRect off h).toLoadRect (View.loadsAt_vmem h_S32x1024))
/-- Load 32 rows of the result's buffer. -/
def loadOut (off : Fin 2 → Nat) (h : ∀ a, off a + S32x1024.size a ≤ S1024x1024.size a) : KProg F (Vec F S32x1024 .f32) :=
  Prog.lift (.load oM (outRect off h).toLoadRect (View.loadsAt_vmem h_S32x1024))
/-- Store 32 rows of the result's buffer. -/
def storeOut (off : Fin 2 → Nat) (h : ∀ a, off a + S32x1024.size a ≤ S1024x1024.size a) (v : FVec F S32x1024 .f32) : KProg F PUnit :=
  Prog.lift (.store oM (outRect off h) v Finset.univ (View.stores_vmem_bits_univ h_S32x1024 rfl) (.inl rfl))
/-- Load gamma. -/
def loadGamma : KProg F (Vec F S1x1024 .bf16) :=
  Prog.lift (.load gM (Rect.unit (s := S1x1024) ![0, 0] S1x1024.size inb_S1x1024_S1x1024_0_0).toLoadRect (View.loadsAt_vmem h_S1x1024))

/-! ## The devices the copies go to -/

/-- The device an outer device's first copy of each sub-step goes to. -/
def devS1 (d : Dev nD) (h : k0_cond1 d = 1#1) : Fin 8 → Dev nD :=
  ![⟨k0_dev7 d, k0_dev7_lt d h⟩, ⟨k0_dev8 d, k0_dev8_lt d h⟩, ⟨k0_dev9 d, k0_dev9_lt d h⟩, ⟨k0_dev10 d, k0_dev10_lt d h⟩, ⟨k0_dev11 d, k0_dev11_lt d h⟩, ⟨k0_dev12 d, k0_dev12_lt d h⟩, ⟨k0_dev13 d, k0_dev13_lt d h⟩, ⟨k0_dev14 d, k0_dev14_lt d h⟩]

/-- The device an outer device's normalised rows go to, first axis. -/
def devOX (d : Dev nD) (h : k0_cond1 d = 1#1) : Fin 8 → Dev nD :=
  ![⟨k0_dev15 d, k0_dev15_lt d h⟩, ⟨k0_dev18 d, k0_dev18_lt d h⟩, ⟨k0_dev21 d, k0_dev21_lt d h⟩, ⟨k0_dev24 d, k0_dev24_lt d h⟩, ⟨k0_dev27 d, k0_dev27_lt d h⟩, ⟨k0_dev30 d, k0_dev30_lt d h⟩, ⟨k0_dev33 d, k0_dev33_lt d h⟩, ⟨k0_dev36 d, k0_dev36_lt d h⟩]

/-- The device an outer device's normalised rows go to, second axis. -/
def devOY (d : Dev nD) (h : k0_cond1 d = 1#1) : Fin 8 → Dev nD :=
  ![⟨k0_dev16 d, k0_dev16_lt d h⟩, ⟨k0_dev19 d, k0_dev19_lt d h⟩, ⟨k0_dev22 d, k0_dev22_lt d h⟩, ⟨k0_dev25 d, k0_dev25_lt d h⟩, ⟨k0_dev28 d, k0_dev28_lt d h⟩, ⟨k0_dev31 d, k0_dev31_lt d h⟩, ⟨k0_dev34 d, k0_dev34_lt d h⟩, ⟨k0_dev37 d, k0_dev37_lt d h⟩]

/-- The device an outer device's normalised rows go to, both axes. -/
def devOD (d : Dev nD) (h : k0_cond1 d = 1#1) : Fin 8 → Dev nD :=
  ![⟨k0_dev17 d, k0_dev17_lt d h⟩, ⟨k0_dev20 d, k0_dev20_lt d h⟩, ⟨k0_dev23 d, k0_dev23_lt d h⟩, ⟨k0_dev26 d, k0_dev26_lt d h⟩, ⟨k0_dev29 d, k0_dev29_lt d h⟩, ⟨k0_dev32 d, k0_dev32_lt d h⟩, ⟨k0_dev35 d, k0_dev35_lt d h⟩, ⟨k0_dev38 d, k0_dev38_lt d h⟩]

/-- The device an inner device's pair sum goes to: the other inner device. -/
def devMid (d : Dev nD) (h : k0_cond2 d = 1#1) : Fin 8 → Dev nD :=
  ![⟨k0_dev39 d, k0_dev39_lt d h⟩, ⟨k0_dev42 d, k0_dev42_lt d h⟩, ⟨k0_dev45 d, k0_dev45_lt d h⟩, ⟨k0_dev48 d, k0_dev48_lt d h⟩, ⟨k0_dev51 d, k0_dev51_lt d h⟩, ⟨k0_dev54 d, k0_dev54_lt d h⟩, ⟨k0_dev57 d, k0_dev57_lt d h⟩, ⟨k0_dev60 d, k0_dev60_lt d h⟩]

/-- The device an inner device's pair sum goes to: its outer partner. -/
def devNear (d : Dev nD) (h : k0_cond2 d = 1#1) : Fin 8 → Dev nD :=
  ![⟨k0_dev40 d, k0_dev40_lt d h⟩, ⟨k0_dev43 d, k0_dev43_lt d h⟩, ⟨k0_dev46 d, k0_dev46_lt d h⟩, ⟨k0_dev49 d, k0_dev49_lt d h⟩, ⟨k0_dev52 d, k0_dev52_lt d h⟩, ⟨k0_dev55 d, k0_dev55_lt d h⟩, ⟨k0_dev58 d, k0_dev58_lt d h⟩, ⟨k0_dev61 d, k0_dev61_lt d h⟩]

/-- The device an inner device's pair sum goes to: the other outer device. -/
def devFar (d : Dev nD) (h : k0_cond2 d = 1#1) : Fin 8 → Dev nD :=
  ![⟨k0_dev41 d, k0_dev41_lt d h⟩, ⟨k0_dev44 d, k0_dev44_lt d h⟩, ⟨k0_dev47 d, k0_dev47_lt d h⟩, ⟨k0_dev50 d, k0_dev50_lt d h⟩, ⟨k0_dev53 d, k0_dev53_lt d h⟩, ⟨k0_dev56 d, k0_dev56_lt d h⟩, ⟨k0_dev59 d, k0_dev59_lt d h⟩, ⟨k0_dev62 d, k0_dev62_lt d h⟩]

/-- The device an inner device's normalised rows go to, first axis. -/
def devIX (d : Dev nD) (h : k0_cond2 d = 1#1) : Fin 8 → Dev nD :=
  ![⟨k0_dev63 d, k0_dev63_lt d h⟩, ⟨k0_dev66 d, k0_dev66_lt d h⟩, ⟨k0_dev69 d, k0_dev69_lt d h⟩, ⟨k0_dev72 d, k0_dev72_lt d h⟩, ⟨k0_dev75 d, k0_dev75_lt d h⟩, ⟨k0_dev78 d, k0_dev78_lt d h⟩, ⟨k0_dev81 d, k0_dev81_lt d h⟩, ⟨k0_dev84 d, k0_dev84_lt d h⟩]

/-- The device an inner device's normalised rows go to, second axis. -/
def devIY (d : Dev nD) (h : k0_cond2 d = 1#1) : Fin 8 → Dev nD :=
  ![⟨k0_dev64 d, k0_dev64_lt d h⟩, ⟨k0_dev67 d, k0_dev67_lt d h⟩, ⟨k0_dev70 d, k0_dev70_lt d h⟩, ⟨k0_dev73 d, k0_dev73_lt d h⟩, ⟨k0_dev76 d, k0_dev76_lt d h⟩, ⟨k0_dev79 d, k0_dev79_lt d h⟩, ⟨k0_dev82 d, k0_dev82_lt d h⟩, ⟨k0_dev85 d, k0_dev85_lt d h⟩]

/-- The device an inner device's normalised rows go to, both axes. -/
def devID (d : Dev nD) (h : k0_cond2 d = 1#1) : Fin 8 → Dev nD :=
  ![⟨k0_dev65 d, k0_dev65_lt d h⟩, ⟨k0_dev68 d, k0_dev68_lt d h⟩, ⟨k0_dev71 d, k0_dev71_lt d h⟩, ⟨k0_dev74 d, k0_dev74_lt d h⟩, ⟨k0_dev77 d, k0_dev77_lt d h⟩, ⟨k0_dev80 d, k0_dev80_lt d h⟩, ⟨k0_dev83 d, k0_dev83_lt d h⟩, ⟨k0_dev86 d, k0_dev86_lt d h⟩]

/-! ## The sub-steps -/

/-- A block followed by the same block for the next sub-step, eight times. -/
def loop8 (f : Fin 8 → KProg F PUnit) : KProg F PUnit := do
  f 0; f 1; f 2; f 3; f 4; f 5; f 6; f 7

/-- Normalise a block of rows, store it to the result and to the copy buffer, and start its three copies. -/
def lnScatter (s : Fin 8) (off : Fin 2 → Nat) (h : ∀ a, off a + S32x1024.size a ≤ S1024x1024.size a)
    (cx cy cd : Dev nD) (t : FVec F S32x1024 .f32) : KProg F PUnit := do
  let r ← loadRes off h
  let g ← loadGamma
  let _ ← loadOut off h
  storeOut off h (k0_pay2 t r g)
  let _ ← loadRow s lnM
  storeRow s lnM (Memref.isWhole_whole _) (k0_pay3 t r g)
  sendRow 4 s lnM qxM (Memref.isWhole_whole _) (Memref.isWhole_whole _) cx
  sendRow 5 s lnM qyM (Memref.isWhole_whole _) (Memref.isWhole_whole _) cy
  sendRow 6 s lnM qdM (Memref.isWhole_whole _) (Memref.isWhole_whole _) cd

/-- What an outer device does. -/
def outerPart (d : Dev nD) (h : k0_cond1 d = 1#1) : KProg F PUnit := do
  loop8 fun s => sendRow 0 s myM s1M (Memref.isWhole_whole _) (Memref.isWhole_whole _) (devS1 d h s)
  loop8 fun s => do
    waitRow (rcvSem s 2) s poM pnM (Memref.isWhole_whole _) (Memref.isWhole_whole _)
    waitRow (rcvSem s 3) s poM pfM (Memref.isWhole_whole _) (Memref.isWhole_whole _)
    let a ← loadRow s pnM
    let b ← loadRow s pfM
    lnScatter s (k0_off2 d (BitVec.ofNat 32 (32 * s.val))) (k0_off2_inb d h s) (devOX d h s) (devOY d h s) (devOD d h s) (k0_pay1 a b)
  loop8 fun s => waitRow (sndSem s 0) s s1M myM (Memref.isWhole_whole _) (Memref.isWhole_whole _)

/-- What an inner device does. -/
def innerPart (d : Dev nD) (h : k0_cond2 d = 1#1) : KProg F PUnit := do
  loop8 fun s => do
    waitRow (rcvSem s 0) s myM s1M (Memref.isWhole_whole _) (Memref.isWhole_whole _)
    let a ← loadRow s myM
    let b ← loadRow s s1M
    let _ ← loadRow s poM
    storeRow s poM (Memref.isWhole_whole _) (k0_pay27 a b)
    sendRow 1 s poM piM (Memref.isWhole_whole _) (Memref.isWhole_whole _) (devMid d h s)
    sendRow 2 s poM pnM (Memref.isWhole_whole _) (Memref.isWhole_whole _) (devNear d h s)
    sendRow 3 s poM pfM (Memref.isWhole_whole _) (Memref.isWhole_whole _) (devFar d h s)
  loop8 fun s => do
    waitRow (rcvSem s 1) s poM piM (Memref.isWhole_whole _) (Memref.isWhole_whole _)
    let a ← loadRow s poM
    let b ← loadRow s piM
    lnScatter s (k0_off3 d (BitVec.ofNat 32 (32 * s.val))) (k0_off3_inb d h s) (devIX d h s) (devIY d h s) (devID d h s) (k0_pay1 a b)
  loop8 fun s => do
    waitRow (sndSem s 1) s piM poM (Memref.isWhole_whole _) (Memref.isWhole_whole _)
    waitRow (sndSem s 2) s pnM poM (Memref.isWhole_whole _) (Memref.isWhole_whole _)
    waitRow (sndSem s 3) s pfM poM (Memref.isWhole_whole _) (Memref.isWhole_whole _)

/-- Wait for one received block and store it to its rows of the result. -/
def takeRow (s : Fin 8) (k : Fin 7) (B : Buf8) (hB : B.IsWhole)
    (off : Fin 2 → Nat) (h : ∀ a, off a + S32x1024.size a ≤ S1024x1024.size a) : KProg F PUnit := do
  waitRow (rcvSem s k) s lnM B (Memref.isWhole_whole _) hB
  let a ← loadRow s B
  let _ ← loadOut off h
  storeOut off h (k0_pay61 a)

/-- What every device does at last, up to the end of the received blocks: -/
def tailTake (d : Dev nD) : KProg F PUnit :=
  loop8 fun s => do
    takeRow s 4 qxM (Memref.isWhole_whole _) (k0_off4 d (BitVec.ofNat 32 (32 * s.val))) (k0_off4_inb d s)
    takeRow s 5 qyM (Memref.isWhole_whole _) (k0_off5 d (BitVec.ofNat 32 (32 * s.val))) (k0_off5_inb d s)
    takeRow s 6 qdM (Memref.isWhole_whole _) (k0_off6 d (BitVec.ofNat 32 (32 * s.val))) (k0_off6_inb d s)
/-- and the waits for its own copies of the normalised rows to have left, for one sub-step. -/
def tailWait (s : Fin 8) : KProg F PUnit := do
  waitRow (sndSem s 4) s qxM lnM (Memref.isWhole_whole _) (Memref.isWhole_whole _)
  waitRow (sndSem s 5) s qyM lnM (Memref.isWhole_whole _) (Memref.isWhole_whole _)
  waitRow (sndSem s 6) s qdM lnM (Memref.isWhole_whole _) (Memref.isWhole_whole _)

/-- The entry handshake and the copy of the device's own quarter of the partial sums into its buffer. -/
def entry (d : Dev nD) : KProg F PUnit := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semSignalWord (⟨k0_dev4 d, k0_dev4_lt d⟩ : Dev nD) barS 1#32
  semSignalWord (⟨k0_dev5 d, k0_dev5_lt d⟩ : Dev nD) barS 1#32
  semSignalWord (⟨k0_dev6 d, k0_dev6_lt d⟩ : Dev nD) barS 1#32
  semWaitWord barS 6#32
  let v : Vec F S1x256x1024 .bf16 ← Prog.lift (.load xM (Rect.unit (s := S1x1024x1024) (k0_off1 d) S1x256x1024.size (k0_off1_inb d)).toLoadRect (View.loadsAt_vmem h_S1x256x1024))
  let _ : Vec F S8x32x1024 .bf16 ← Prog.lift (.load myM (Rect.unit (s := S8x32x1024) ![0, 0, 0] S8x32x1024.size inb_S8x32x1024_S8x32x1024_0_0_0).toLoadRect (View.loadsAt_vmem h_S8x32x1024))
  Prog.lift (.store myM (Rect.unit (s := S8x32x1024) ![0, 0, 0] S8x32x1024.size inb_S8x32x1024_S8x32x1024_0_0_0) (k0_pay60 v) Finset.univ (View.stores_vmem h_S8x32x1024 ((Memref.isWhole_whole _).storeExact_slice rfl _ packedbf16_S8x32x1024_S8x32x1024_0_0_0) (fun _ => rfl)) (.inl rfl))

/-! ## The printed body is this program -/

/-- The program with its sequencing as printed around the two conditionals. -/
def mirror : KProg F PUnit := do
  (do
    let d ← Prog.lift .deviceId
    entry d
    (do
      let w ← (do
        if h : k0_cond1 d = 1#1 then outerPart d h else pure ⟨⟩
        pure (Scalar.extui (Scalar.ori (Scalar.cmpi .eq (Scalar.remsi (Scalar.divsi (Dev.word d) 1#32) 4#32) 1#32) (Scalar.cmpi .eq (Scalar.remsi (Scalar.divsi (Dev.word d) 1#32) 4#32) 2#32)) : BitVec 32))
      (do
        let _ ← (do
          if h : k0_cond2 d = 1#1 then innerPart d h else pure ⟨⟩
          pure ((⟨Scalar.muli (Scalar.addi (Scalar.muli 2#32 (Scalar.subi 1#32 (Scalar.remsi (Scalar.divsi (Dev.word d) 8#32) 2#32))) (Scalar.remsi (Scalar.divsi (Dev.word d) 4#32) 2#32)) 256#32,
            Scalar.muli (Scalar.addi (Scalar.muli 2#32 (Scalar.remsi (Scalar.divsi (Dev.word d) 8#32) 2#32)) (Scalar.subi 1#32 (Scalar.remsi (Scalar.divsi (Dev.word d) 4#32) 2#32))) 256#32,
            Scalar.muli (Scalar.addi (Scalar.muli 2#32 (Scalar.subi 1#32 (Scalar.remsi (Scalar.divsi (Dev.word d) 8#32) 2#32))) (Scalar.subi 1#32 (Scalar.remsi (Scalar.divsi (Dev.word d) 4#32) 2#32))) 256#32⟩ :
              Σ' (v74 : BitVec 32) (v78 : BitVec 32), BitVec 32)))
        tailTake d
        tailWait 0; tailWait 1; tailWait 2; tailWait 3; tailWait 4; tailWait 5; tailWait 6
        waitRow (sndSem 7 4) 7 qxM lnM (Memref.isWhole_whole _) (Memref.isWhole_whole _))))
  waitRow (sndSem 7 5) 7 qyM lnM (Memref.isWhole_whole _) (Memref.isWhole_whole _)
  waitRow (sndSem 7 6) 7 qdM lnM (Memref.isWhole_whole _) (Memref.isWhole_whole _)

/-- The printed body, on the launch's buffers, is the mirrored program. -/
theorem body_eq_mirror (t : Fin cfg0.N) : bodyAt0 (F := F) t = mirror := by
  sl_kernel_rfl

/-! ## The program in order -/

/-- The kernel on one device: the handshake, then the outer or the inner part, then the exchange of quarters. -/
def prog : KProg F PUnit := do
  let d ← Prog.lift .deviceId
  entry d
  (if h : k0_cond1 d = 1#1 then outerPart d h else pure ⟨⟩)
  (if h : k0_cond2 d = 1#1 then innerPart d h else pure ⟨⟩)
  tailTake d
  loop8 tailWait

/-- The printed body is the program in order. -/
theorem body_eq (t : Fin cfg0.N) : bodyAt0 (F := F) t = prog := by
  rw [body_eq_mirror]
  simp only [mirror, prog, loop8, tailWait, bind_assoc, pure_bind]
  refine congrArg (Prog.lift _ >>= ·) (funext fun d => ?_)
  by_cases h₁ : k0_cond1 d = 1#1 <;> by_cases h₂ : k0_cond2 d = 1#1 <;>
    simp only [dif_pos, dif_neg, h₁, h₂, bind_assoc, pure_bind, not_false_eq_true]

end Cert.KernelIdeal.Own

end
-- ==== Proof.Mesh.lean ====
/-
The mesh seen from one device: which devices it exchanges with, which of the seven copy kinds it sends and receives,
and the rows of the result each quarter's blocks take. The printed device numbers and offsets are brought to these.
-/
module

public import proofs.«01_k».proof.Proof.Program

@[expose] public section

set_option maxRecDepth 4000

noncomputable section

namespace Cert.KernelIdeal.Own

open Idealize.ShloMosaic Idealize.ShloMosaic.TcCoe Idealize.SL.Sem
open Cert.KernelIdeal Cert.KernelIdeal.Gen

/-! ## Peers -/

/-- The bits in which the receiver of copy kind `k` differs from the sender. -/
def mask : Fin 7 → Nat := ![1, 3, 1, 2, 8, 4, 12]
/-- The device copy kind `k` of device `c` goes to, and equally the device kind `k` comes to `c` from. -/
def peer (k : Fin 7) (c : Dev nD) : Dev nD := ⟨(c.val ^^^ mask k) % 16, Nat.mod_lt _ (by decide)⟩
theorem peer_peer (k : Fin 7) (c : Dev nD) : peer k (peer k c) = c := by revert k c; decide +kernel
/-- The peer map of a kind, as a permutation of the devices. -/
def peerEquiv (k : Fin 7) : Dev nD ≃ Dev nD := ⟨peer k, peer k, peer_peer k, peer_peer k⟩

/-- The bits of the six devices of the handshake, in the order of the signals. -/
def barMask : Fin 6 → Nat := ![1, 3, 2, 8, 4, 12]
/-- The device the `j`-th signal goes to. -/
def jp (j : Fin 6) (c : Dev nD) : Dev nD := ⟨(c.val ^^^ barMask j) % 16, Nat.mod_lt _ (by decide)⟩
theorem jp_jp (j : Fin 6) (c : Dev nD) : jp j (jp j c) = c := by revert j c; decide +kernel
def jpEquiv (j : Fin 6) : Dev nD ≃ Dev nD := ⟨jp j, jp j, jp_jp j, jp_jp j⟩

/-- The middle devices of the column, which add up the pair sums first. -/
def inner (c : Dev nD) : Bool := c.val % 4 == 1 || c.val % 4 == 2
theorem inner_of_cond2 : ∀ c : Dev nD, k0_cond2 c = 1#1 → inner c = true := by decide +kernel
theorem cond2_of_inner : ∀ c : Dev nD, inner c = true → k0_cond2 c = 1#1 := by decide +kernel
theorem outer_of_cond1 : ∀ c : Dev nD, k0_cond1 c = 1#1 → inner c = false := by decide +kernel
theorem cond1_of_outer : ∀ c : Dev nD, inner c = false → k0_cond1 c = 1#1 := by decide +kernel
theorem not_cond1_of_inner : ∀ c : Dev nD, inner c = true → ¬ k0_cond1 c = 1#1 := by decide +kernel
theorem not_cond2_of_outer : ∀ c : Dev nD, inner c = false → ¬ k0_cond2 c = 1#1 := by decide +kernel

/-- Whether device `c` sends copy kind `k`. -/
def sendUsed (c : Dev nD) (k : Fin 7) : Bool := if k.val = 0 then !inner c else if k.val ≤ 3 then inner c else true
/-- Whether device `c` receives copy kind `k`. -/
def recvUsed (c : Dev nD) (k : Fin 7) : Bool := sendUsed (peer k c) k

/-! ## The printed devices -/

theorem dev1_eq : ∀ d : Dev nD, (⟨k0_dev1 d, k0_dev1_lt d⟩ : Dev nD) = jp 0 d := by decide +kernel
theorem dev2_eq : ∀ d : Dev nD, (⟨k0_dev2 d, k0_dev2_lt d⟩ : Dev nD) = jp 1 d := by decide +kernel
theorem dev3_eq : ∀ d : Dev nD, (⟨k0_dev3 d, k0_dev3_lt d⟩ : Dev nD) = jp 2 d := by decide +kernel
theorem dev4_eq : ∀ d : Dev nD, (⟨k0_dev4 d, k0_dev4_lt d⟩ : Dev nD) = jp 3 d := by decide +kernel
theorem dev5_eq : ∀ d : Dev nD, (⟨k0_dev5 d, k0_dev5_lt d⟩ : Dev nD) = jp 4 d := by decide +kernel
theorem dev6_eq : ∀ d : Dev nD, (⟨k0_dev6 d, k0_dev6_lt d⟩ : Dev nD) = jp 5 d := by decide +kernel

theorem devS1_eq : ∀ (d : Dev nD) (h : k0_cond1 d = 1#1) (s : Fin 8), devS1 d h s = peer 0 d := by decide +kernel
theorem devOX_eq : ∀ (d : Dev nD) (h : k0_cond1 d = 1#1) (s : Fin 8), devOX d h s = peer 4 d := by decide +kernel
theorem devOY_eq : ∀ (d : Dev nD) (h : k0_cond1 d = 1#1) (s : Fin 8), devOY d h s = peer 5 d := by decide +kernel
theorem devOD_eq : ∀ (d : Dev nD) (h : k0_cond1 d = 1#1) (s : Fin 8), devOD d h s = peer 6 d := by decide +kernel
theorem devMid_eq : ∀ (d : Dev nD) (h : k0_cond2 d = 1#1) (s : Fin 8), devMid d h s = peer 1 d := by decide +kernel
theorem devNear_eq : ∀ (d : Dev nD) (h : k0_cond2 d = 1#1) (s : Fin 8), devNear d h s = peer 2 d := by decide +kernel
theorem devFar_eq : ∀ (d : Dev nD) (h : k0_cond2 d = 1#1) (s : Fin 8), devFar d h s = peer 3 d := by decide +kernel
theorem devIX_eq : ∀ (d : Dev nD) (h : k0_cond2 d = 1#1) (s : Fin 8), devIX d h s = peer 4 d := by decide +kernel
theorem devIY_eq : ∀ (d : Dev nD) (h : k0_cond2 d = 1#1) (s : Fin 8), devIY d h s = peer 5 d := by decide +kernel
theorem devID_eq : ∀ (d : Dev nD) (h : k0_cond2 d = 1#1) (s : Fin 8), devID d h s = peer 6 d := by decide +kernel

/-! ## Quarters -/

/-- The quarter of the rows device `c` adds up. -/
def qOf (c : Dev nD) : Fin 4 := ⟨c.val / 4, by have := c.isLt; show _ < 4; change _ < 16 at this; omega⟩
/-- The device of `c`'s copy of the layer that has quarter `q`. -/
def holder (q : Fin 4) (c : Dev nD) : Dev nD := ⟨4 * q.val + c.val % 4, by have := q.isLt; show _ < 16; omega⟩
theorem peer_is_holder : ∀ (c : Dev nD) (k : Fin 7), 4 ≤ k.val → holder (qOf (peer k c)) c = peer k c := by decide +kernel
theorem peer_quarter_ne : ∀ (c : Dev nD) (k : Fin 7), 4 ≤ k.val → qOf (peer k c) ≠ qOf c := by decide +kernel
theorem holder_self : ∀ c : Dev nD, holder (qOf c) c = c := by decide +kernel
theorem quarter_cases : ∀ (c : Dev nD) (q : Fin 4), q = qOf c ∨ q = qOf (peer 4 c) ∨ q = qOf (peer 5 c) ∨ q = qOf (peer 6 c) := by decide +kernel

/-- Where block `s` of quarter `q` starts. -/
def blkOff (q : Fin 4) (s : Fin 8) : Fin 2 → Nat := ![256 * q.val + 32 * s.val, 0]
theorem blkInb : ∀ (q : Fin 4) (s : Fin 8), ∀ a, blkOff q s a + S32x1024.size a ≤ S1024x1024.size a := by decide +kernel
theorem off2_eq : ∀ (d : Dev nD) (s : Fin 8), k0_off2 d (BitVec.ofNat 32 (32 * s.val)) = blkOff (qOf d) s := by decide +kernel
theorem off3_eq : ∀ (d : Dev nD) (s : Fin 8), k0_off3 d (BitVec.ofNat 32 (32 * s.val)) = blkOff (qOf d) s := by decide +kernel
theorem off4_eq : ∀ (d : Dev nD) (s : Fin 8), k0_off4 d (BitVec.ofNat 32 (32 * s.val)) = blkOff (qOf (peer 4 d)) s := by decide +kernel
theorem off5_eq : ∀ (d : Dev nD) (s : Fin 8), k0_off5 d (BitVec.ofNat 32 (32 * s.val)) = blkOff (qOf (peer 5 d)) s := by decide +kernel
theorem off6_eq : ∀ (d : Dev nD) (s : Fin 8), k0_off6 d (BitVec.ofNat 32 (32 * s.val)) = blkOff (qOf (peer 6 d)) s := by decide +kernel
theorem off1_eq : ∀ d : Dev nD, k0_off1 d = ![0, 256 * (qOf d).val, 0] := by decide +kernel

/-- The rectangle of block `s` of quarter `q`. -/
abbrev blkRect (q : Fin 4) (s : Fin 8) : Rect S1024x1024 := outRect (blkOff q s) (blkInb q s)

end Cert.KernelIdeal.Own

end
-- ==== Proof.Protocol.lean ====
/-
What every device computes, and the protocol of the semaphores: which copies raise which cell, and what a cell's round
hands over. A row block's contents are stated where a copy carries them, so a wait yields the values themselves.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Ring

@[expose] public section

set_option maxRecDepth 4000

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Values -/

/-- The three arguments of the kernel on every device. -/
structure Args (F : FTy → Type) where
  x : Dev nD → (cc0_stg0_0 : Ref sig .tc).ty.Contents (Elt F)
  r : Dev nD → (cc0_stg1_0 : Ref sig .tc).ty.Contents (Elt F)
  g : Dev nD → (cc0_stg2_0 : Ref sig .tc).ty.Contents (Elt F)

variable (I : Args F)

abbrev RowV (F : FTy → Type) : Type := Vec F S1x32x1024 .bf16

/-- The rectangle of the device's quarter in its partial sums. -/
abbrev xRect (c : Dev nD) : Rect S1x1024x1024 := Rect.unit (s := S1x1024x1024) (k0_off1 c) S1x256x1024.size (k0_off1_inb c)
/-- The device's own quarter of its partial sums, as eight row blocks. -/
def myV (c : Dev nD) : Vec F S8x32x1024 .bf16 := k0_pay60 (xM.view.readAt (Elt F) (xRect c).toLoadRect (I.x c))
/-- One row block of it. -/
def myRow (c : Dev nD) (s : Fin 8) : RowV F := (myM.access (rowRect s)).read (Elt F) (myV I c)
/-- An inner device's pair sum: its own row block and its outer partner's. -/
def poRow (c : Dev nD) (s : Fin 8) : RowV F := k0_pay27 (myRow I c s) (myRow I (peer 0 c) s)
/-- The total of the four partial sums over one row block, as the device adds it up. -/
def tRow (c : Dev nD) (s : Fin 8) : FVec F S32x1024 .f32 :=
  if inner c then k0_pay1 (poRow I c s) (poRow I (peer 1 c) s) else k0_pay1 (poRow I (peer 2 c) s) (poRow I (peer 3 c) s)
/-- The residual's rows of one block of the device's quarter. -/
def resV (c : Dev nD) (s : Fin 8) : Vec F S32x1024 .bf16 := rM.view.readAt (Elt F) (blkRect (qOf c) s).toLoadRect (I.r c)
/-- Gamma. -/
def gamV (c : Dev nD) : Vec F S1x1024 .bf16 :=
  gM.view.readAt (Elt F) (Rect.unit (s := S1x1024) ![0, 0] S1x1024.size inb_S1x1024_S1x1024_0_0).toLoadRect (I.g c)
/-- The normalised rows: as stored to the result, -/
def outQ (c : Dev nD) (s : Fin 8) : FVec F S32x1024 .f32 := k0_pay2 (tRow I c s) (resV I c s) (gamV I c)
/-- and as sent to the devices of the layer. -/
def lnRow (c : Dev nD) (s : Fin 8) : RowV F := k0_pay3 (tRow I c s) (resV I c s) (gamV I c)
/-- Block `s` of quarter `q` of the result of device `c`. -/
def outv (c : Dev nD) (q : Fin 4) (s : Fin 8) : FVec F S32x1024 .f32 :=
  if q = qOf c then outQ I c s else k0_pay61 (lnRow I (holder q c) s)

/-! ## The resource algebra -/

abbrev UB : Type := URounds (GSem nD τ sig) (Fin 6)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

abbrev barCell (c : Dev nD) : GSem nD τ sig := ((c : Thread nD τ), .reg barS)
abbrev sndCell (c : Dev nD) (s : Fin 8) (k : Fin 7) : GSem nD τ sig := ((c : Thread nD τ), .dma (sndSem s k))
abbrev rcvCell (c : Dev nD) (s : Fin 8) (k : Fin 7) : GSem nD τ sig := ((c : Thread nD τ), .dma (rcvSem s k))

/-- What one row block's copy credits its semaphores. -/
def N : ℕ := (row qxM 0).view.dmaCredit
theorem N_pos : 0 < N := View.dmaCredit_pos _ (by decide)

/-- The sub-step and the kind a kernel semaphore is for, by its number. -/
def subOf (q : Nat) : Fin 8 := ⟨((q - 4) / 7) % 8, Nat.mod_lt _ (by decide)⟩
def kindOf (q : Nat) : Fin 7 := ⟨(q - 4) % 7, Nat.mod_lt _ (by decide)⟩
theorem subOf_snd : ∀ (s : Fin 8) (k : Fin 7), subOf (sndSem s k).val = s := by decide +kernel
theorem kindOf_snd : ∀ (s : Fin 8) (k : Fin 7), kindOf (sndSem s k).val = k := by decide +kernel
theorem subOf_rcv : ∀ (s : Fin 8) (k : Fin 7), subOf (rcvSem s k).val = s := by decide +kernel
theorem kindOf_rcv : ∀ (s : Fin 8) (k : Fin 7), kindOf (rcvSem s k).val = k := by decide +kernel

/-! ## Row blocks held -/

/-- Row block `s` of buffer `A` on device `c`, at share `q`, reading `v`. -/
def rowPts (A : Buf8) (c : Dev nD) (s : Fin 8) (q : PosShare TreeShare) (v : RowV F) : sProp 𝕄 :=
  iprop(∃ f : Buf (Elt F) (A.view.loc (c : Thread nD τ)),
    (A.view.loc (c : Thread nD τ) ↦[(A.access (rowRect s)).set]{q} f) ∗ ⌜(A.access (rowRect s)).read (Elt F) f = v⌝)
/-- Row block `s` of buffer `A` on device `c` at any contents. -/
def rowAny (A : Buf8) (c : Dev nD) (s : Fin 8) : sProp 𝕄 :=
  iprop(∃ f : Buf (Elt F) (A.view.loc (c : Thread nD τ)), A.view.loc (c : Thread nD τ) ↦[(A.access (rowRect s)).set]{fullShare} f)
/-- A whole buffer by its row blocks, at any contents. -/
def bufAny (A : Buf8) (c : Dev nD) : sProp 𝕄 := bigSep Finset.univ fun s : Fin 8 => rowAny A c s

instance rowPts_storable (A : Buf8) (c : Dev nD) (s q) (v : RowV F) : BI.Storable (upEmb : UEmb _ 𝕄) (rowPts A c s q v) := by
  unfold rowPts; infer_instance
instance rowAny_storable (A : Buf8) (c : Dev nD) (s) : BI.Storable (upEmb : UEmb _ 𝕄) (rowAny (F := F) A c s) := by
  unfold rowAny; infer_instance
instance bufAny_storable (A : Buf8) (c : Dev nD) : BI.Storable (upEmb : UEmb _ 𝕄) (bufAny (F := F) A c) := by
  unfold bufAny; infer_instance

/-! ## What the copies carry -/

/-- The buffer a copy kind reads, and the one it writes on the receiver. -/
def srcBuf : Fin 7 → Buf8 := ![myM, poM, poM, poM, lnM, lnM, lnM]
def dstBuf : Fin 7 → Buf8 := ![s1M, piM, pnM, pfM, qxM, qyM, qdM]
theorem srcBuf_whole (k : Fin 7) : (srcBuf k).IsWhole := by fin_cases k <;> exact Memref.isWhole_whole _
theorem dstBuf_whole (k : Fin 7) : (dstBuf k).IsWhole := by fin_cases k <;> exact Memref.isWhole_whole _

/-- The share of its source a copy holds while it is in flight. -/
def shr : Fin 7 → PosShare TreeShare :=
  ![fullShare, fullShare.left.left, fullShare.left.right, fullShare.right.left, fullShare.left, fullShare.right.left, fullShare.right.right]
/-- What a copy of kind `k` from device `c` carries. -/
def srcVal (c : Dev nD) (k : Fin 7) (s : Fin 8) : RowV F :=
  if k.val = 0 then myRow I c s else if k.val ≤ 3 then poRow I c s else lnRow I c s

/-- What the sending side's round hands back: the source at its share; -/
def sndPay (c : Dev nD) (s : Fin 8) (k : Fin 7) : sProp 𝕄 := rowPts (srcBuf k) c s (shr k) (srcVal I c k s)
/-- what the receiving side's hands over: the landed row block. -/
def rcvPay (c : Dev nD) (s : Fin 8) (k : Fin 7) : sProp 𝕄 := rowPts (dstBuf k) c s fullShare (srcVal I (peer k c) k s)
/-- What the `j`-th signal of device `jp j c` hands device `c`: the buffer `c` copies into there. -/
def barPay (c : Dev nD) (j : Fin 6) : sProp 𝕄 :=
  match j with
  | 0 => if inner c then bufAny pnM (jp 0 c) else bufAny s1M (jp 0 c)
  | 1 => if inner c then bufAny piM (jp 1 c) else iprop(emp)
  | 2 => if inner c then bufAny pfM (jp 2 c) else iprop(emp)
  | 3 => bufAny qxM (jp 3 c)
  | 4 => bufAny qyM (jp 4 c)
  | 5 => bufAny qdM (jp 5 c)

instance sndPay_storable (c : Dev nD) (s k) : BI.Storable (upEmb : UEmb _ 𝕄) (sndPay I c s k) := by unfold sndPay; infer_instance
instance rcvPay_storable (c : Dev nD) (s k) : BI.Storable (upEmb : UEmb _ 𝕄) (rcvPay I c s k) := by unfold rcvPay; infer_instance
instance barPay_storable (c : Dev nD) (j) : BI.Storable (upEmb : UEmb _ 𝕄) (barPay (F := F) c j) := by
  unfold barPay; (repeat' split) <;> infer_instance

/-! ## The schedule -/

/-- The duties of round 0 of a core's cell. -/
def duties0 (c : Dev nD) (sm : SemLoc sig) : Finset (Fin 6) :=
  match sm with
  | .reg _ => Finset.univ
  | .dma q => if q.val < 4 then ∅
      else if q.val < 60 then (if sendUsed c (kindOf q.val) then {0} else ∅)
      else (if recvUsed c (kindOf q.val) then {0} else ∅)
/-- What a cell of a core hands over. -/
def pay0 (c : Dev nD) (sm : SemLoc sig) (d : Fin 6) : sProp 𝕄 :=
  match sm with
  | .reg _ => barPay c d
  | .dma q => if q.val < 60 then sndPay I c (subOf q.val) (kindOf q.val) else rcvPay I c (subOf q.val) (kindOf q.val)
/-- What one duty of a cell raises it by. -/
def amt0 (sm : SemLoc sig) : ℕ := match sm with | .reg _ => 1 | .dma _ => N

instance pay0_storable (c : Dev nD) (sm d) : BI.Storable (upEmb : UEmb _ 𝕄) (pay0 I c sm d) := by
  unfold pay0; (repeat' split) <;> infer_instance

/-- One round: a barrier cell's six units, a used copy's credit on each side. -/
def rd : Rounds.Schedule (GSem nD τ sig) (Fin 6) 𝕄 where
  duties g r := if r = 0 ∧ g.1.2 = .tc then duties0 g.1.1 g.2 else ∅
  unitless _ := False
  amount g _ _ := amt0 g.2
  payload g _ d := pay0 I g.1.1 g.2 d
  amount_pos g _ _ _ := by
    obtain ⟨t, sm⟩ := g
    cases sm with
    | reg _ => exact Nat.one_pos
    | dma _ => exact N_pos

instance rd_payload_storable (g : GSem nD τ sig) (r : ℕ) (d : Fin 6) : BI.Storable (upEmb : UEmb _ 𝕄) ((rd I).payload g r d) := by
  show BI.Storable upEmb (pay0 I g.1.1 g.2 d); infer_instance

section Sched
variable (c : Dev nD) (s : Fin 8) (k : Fin 7)

theorem duties_bar : (rd I).duties (barCell c) 0 = Finset.univ := by dsimp only [rd]; exact if_pos ⟨rfl, rfl⟩
theorem duties_snd (h : sendUsed c k = true) : (rd I).duties (sndCell c s k) 0 = {0} := by
  dsimp only [rd]; rw [if_pos ⟨rfl, rfl⟩]; dsimp only [duties0]
  rw [if_neg (by dsimp only [sndSem]; omega), if_pos (by dsimp only [sndSem]; omega), kindOf_snd, if_pos h]
theorem duties_rcv (h : recvUsed c k = true) : (rd I).duties (rcvCell c s k) 0 = {0} := by
  dsimp only [rd]; rw [if_pos ⟨rfl, rfl⟩]; dsimp only [duties0]
  rw [if_neg (by dsimp only [rcvSem]; omega), if_neg (by dsimp only [rcvSem]; omega), kindOf_rcv, if_pos h]
theorem duties_snd_unused (h : sendUsed c k = false) : ∀ r, 0 ≤ r → (rd I).duties (sndCell c s k) r = ∅ := fun r _ => by
  dsimp only [rd]; split
  · dsimp only [duties0]
    rw [if_neg (by dsimp only [sndSem]; omega), if_pos (by dsimp only [sndSem]; omega), kindOf_snd, if_neg (by rw [h]; decide)]
  · rfl
theorem duties_rcv_unused (h : recvUsed c k = false) : ∀ r, 0 ≤ r → (rd I).duties (rcvCell c s k) r = ∅ := fun r _ => by
  dsimp only [rd]; split
  · dsimp only [duties0]
    rw [if_neg (by dsimp only [rcvSem]; omega), if_neg (by dsimp only [rcvSem]; omega), kindOf_rcv, if_neg (by rw [h]; decide)]
  · rfl
theorem duties_later (g : GSem nD τ sig) : ∀ r, 1 ≤ r → (rd I).duties g r = ∅ := fun r hr => by
  dsimp only [rd]; rw [if_neg fun h => by omega]

theorem expect_bar : (rd I).expect (barCell c) 0 = 6 := by
  unfold Schedule.expect Schedule.amountOf
  rw [duties_bar]; rfl
theorem expect_snd (h : sendUsed c k = true) : (rd I).expect (sndCell c s k) 0 = N := by
  unfold Schedule.expect Schedule.amountOf
  rw [duties_snd I c s k h]; rfl
theorem expect_rcv (h : recvUsed c k = true) : (rd I).expect (rcvCell c s k) 0 = N := by
  unfold Schedule.expect Schedule.amountOf
  rw [duties_rcv I c s k h]; rfl

theorem payload_bar (j : Fin 6) : (rd I).payload (barCell c) 0 j = barPay c j := rfl
theorem payload_snd (d : Fin 6) : (rd I).payload (sndCell c s k) 0 d = sndPay I c s k := by
  dsimp only [rd, pay0]; rw [if_pos (by dsimp only [sndSem]; omega), subOf_snd, kindOf_snd]
theorem payload_rcv (d : Fin 6) : (rd I).payload (rcvCell c s k) 0 d = rcvPay I c s k := by
  dsimp only [rd, pay0]; rw [if_neg (by dsimp only [rcvSem]; omega), subOf_rcv, kindOf_rcv]

theorem rest_bar : bigSep ((rd I).duties (barCell c) 0 \ ∅) (fun d => (rd I).payload (barCell c) 0 d)
    = bigSep Finset.univ fun j : Fin 6 => (barPay c j : sProp 𝕄) := by
  rw [Finset.sdiff_empty, duties_bar]; rfl
theorem rest_snd (h : sendUsed c k = true) : bigSep ((rd I).duties (sndCell c s k) 0 \ ∅) (fun d => (rd I).payload (sndCell c s k) 0 d) = sndPay I c s k := by
  rw [Finset.sdiff_empty, duties_snd I c s k h, bigSep_singleton, payload_snd]
theorem rest_rcv (h : recvUsed c k = true) : bigSep ((rd I).duties (rcvCell c s k) 0 \ ∅) (fun d => (rd I).payload (rcvCell c s k) 0 d) = rcvPay I c s k := by
  rw [Finset.sdiff_empty, duties_rcv I c s k h, bigSep_singleton, payload_rcv]

end Sched

/-! ## Debts and levels -/

/-- What device `c` owes for its copy of kind `k` in sub-step `s`: the receiver's credit. -/
def oweK (c : Dev nD) (s : Fin 8) (k : Fin 7) : CellTallies nD τ sig Unit := tallyAt (rcvCell (peer k c) s k) () N
/-- What it owes for the column's copies of a sub-step; -/
def oweA (c : Dev nD) (s : Fin 8) : CellTallies nD τ sig Unit := if inner c then oweK c s 3 + oweK c s 2 + oweK c s 1 else oweK c s 0
/-- and for the layer's. -/
def oweB (c : Dev nD) (s : Fin 8) : CellTallies nD τ sig Unit := oweK c s 6 + oweK c s 5 + oweK c s 4
/-- What it owes the handshake. -/
def oweBar (c : Dev nD) (j : Fin 6) : CellTallies nD τ sig Unit := tallyAt (barCell (jp j c)) () 1

/-- The sum over the sub-steps from `n` on. -/
def Rem (f : Fin 8 → CellTallies nD τ sig Unit) (n : ℕ) : CellTallies nD τ sig Unit := ∑ i ∈ Finset.univ.filter (fun i : Fin 8 => n ≤ i.val), f i
theorem Rem_step (f : Fin 8 → CellTallies nD τ sig Unit) (s : Fin 8) : Rem f s.val = Rem f (s.val + 1) + f s := by
  unfold Rem
  rw [show (Finset.univ.filter fun i : Fin 8 => s.val ≤ i.val) = insert s (Finset.univ.filter fun i : Fin 8 => s.val + 1 ≤ i.val) from by
    revert s; decide, Finset.sum_insert (by simp), add_comm]
theorem Rem_end (f : Fin 8 → CellTallies nD τ sig Unit) : Rem f 8 = 0 := by
  unfold Rem; rw [show (Finset.univ.filter fun i : Fin 8 => 8 ≤ i.val) = ∅ from by decide, Finset.sum_empty]
theorem Rem_zero (f : Fin 8 → CellTallies nD τ sig Unit) : Rem f 0 = ∑ i : Fin 8, f i := by
  unfold Rem; rw [show (Finset.univ.filter fun i : Fin 8 => 0 ≤ i.val) = Finset.univ from by decide]

/-- What it owes after the handshake, and at launch. -/
def O₁ (c : Dev nD) : CellTallies nD τ sig Unit := Rem (oweB c) 0 + Rem (oweA c) 0
def O₀ (c : Dev nD) : CellTallies nD τ sig Unit :=
  O₁ c + oweBar c 5 + oweBar c 4 + oweBar c 3 + oweBar c 2 + oweBar c 1 + oweBar c 0

def L (g : GSem nD τ sig) : Finset Unit := if g.1.2 = .tc then {()} else ∅
theorem L_of_ne (g : GSem nD τ sig) (h : g.1.2 ≠ .tc) : L g = ∅ := if_neg h
theorem mem_L {g : GSem nD τ sig} (h : g.1.2 = .tc) (u : Unit) : u ∈ L g := by unfold L; rw [if_pos h]; exact Finset.mem_singleton.mpr rfl

/-- The order in which cells are waited on: staging and sending sides, the handshake, the pair exchange, the
    column's other exchanges, the layer's exchange. -/
def lv (g : GSem nD τ sig) (_ : Unit) : ℕ :=
  match g.2 with
  | .reg _ => 1
  | .dma q => if q.val < 60 then 0 else if (kindOf q.val).val = 0 then 2 else if (kindOf q.val).val ≤ 3 then 3 else 4
theorem lv_rcv (c : Dev nD) (s : Fin 8) (k : Fin 7) : lv (rcvCell c s k) () = if k.val = 0 then 2 else if k.val ≤ 3 then 3 else 4 := by
  dsimp only [lv]; rw [if_neg (by dsimp only [rcvSem]; omega), kindOf_rcv]
theorem lv_bar (c : Dev nD) : lv (barCell c) () = 1 := rfl

/-- Everything owed is at a core's cell above level `n`. -/
def Above (n : ℕ) (O : CellTallies nD τ sig Unit) : Prop := ∀ g u, 0 < O g u → g.1.2 = .tc ∧ n < lv g ()

theorem Above.zero (n : ℕ) : Above n 0 := fun g u h => absurd h (by simp)
theorem Above.add {n : ℕ} {O O' : CellTallies nD τ sig Unit} (h : Above n O) (h' : Above n O') : Above n (O + O') := fun g u hp => by
  rw [Pi.add_apply, Finsupp.add_apply] at hp
  rcases Nat.eq_zero_or_pos (O g u) with h0 | h0
  · exact h' g u (by omega)
  · exact h g u h0
theorem Above.sum {n : ℕ} {ι : Type} [DecidableEq ι] (S : Finset ι) (f : ι → CellTallies nD τ sig Unit) (h : ∀ i, Above n (f i)) : Above n (∑ i ∈ S, f i) := by
  induction S using Finset.induction_on with
  | empty => rw [Finset.sum_empty]; exact Above.zero n
  | insert a S ha ih => rw [Finset.sum_insert ha]; exact (h a).add ih
theorem Above.tally {n : ℕ} {g : GSem nD τ sig} (hg : g.1.2 = .tc) (hn : n < lv g ()) (a : ℕ) : Above n (tallyAt g () a) := fun g' u hp => by
  rw [tallyAt_apply] at hp
  by_cases h : g' = g ∧ u = ()
  · rw [h.1]; exact ⟨hg, hn⟩
  · rw [if_neg h] at hp; exact absurd hp (Nat.lt_irrefl 0)
theorem Above.mono {n n' : ℕ} (hn : n' ≤ n) {O : CellTallies nD τ sig Unit} (h : Above n O) : Above n' O := fun g u hp =>
  ⟨(h g u hp).1, lt_of_le_of_lt hn (h g u hp).2⟩

theorem above_oweB (c : Dev nD) (n : ℕ) : Above 3 (Rem (oweB c) n) := by
  have hk (s : Fin 8) (k : Fin 7) (h : 4 ≤ k.val) : Above 3 (oweK c s k) :=
    Above.tally rfl (by rw [lv_rcv, if_neg (by omega), if_neg (by omega)]; decide) _
  exact Above.sum _ _ fun s => ((hk s 6 (by decide)).add (hk s 5 (by decide))).add (hk s 4 (by decide))
theorem above_oweA (c : Dev nD) (n : ℕ) : Above 1 (Rem (oweA c) n) := by
  have hk (s : Fin 8) (k : Fin 7) : Above 1 (oweK c s k) :=
    Above.tally rfl (by rw [lv_rcv]; split; · decide
                        split <;> decide) _
  refine Above.sum _ _ fun s => ?_
  unfold oweA; split
  · exact ((hk s 3).add (hk s 2)).add (hk s 1)
  · exact hk s 0
theorem above_oweA_inner (c : Dev nD) (h : inner c = true) (n : ℕ) : Above 2 (Rem (oweA c) n) := by
  have hk (s : Fin 8) (k : Fin 7) (h : 1 ≤ k.val) : Above 2 (oweK c s k) :=
    Above.tally rfl (by rw [lv_rcv, if_neg (by omega)]; split <;> decide) _
  refine Above.sum _ _ fun s => ?_
  unfold oweA; rw [if_pos h]
  exact ((hk s 3 (by decide)).add (hk s 2 (by decide))).add (hk s 1 (by decide))
theorem above_O₁ (c : Dev nD) : Above 1 (O₁ c) := ((above_oweB c 0).mono (by decide)).add (above_oweA c 0)
theorem above_O₀ (c : Dev nD) : Above 0 (O₀ c) := by
  have hb (j : Fin 6) : Above 0 (oweBar c j) := Above.tally rfl (by rw [lv_bar]; decide) _
  exact (((((((above_O₁ c).mono (by decide)).add (hb 5)).add (hb 4)).add (hb 3)).add (hb 2)).add (hb 1)).add (hb 0)

/-- A core may wait on a cell of its own below everything it owes. -/
theorem mayWait_of_above (c : Dev nD) (sm : SemLoc sig) (n : ℕ) (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp]; exact mem_L rfl _)
    (fun g u hg => mem_L (hO g u hg).1 u) (fun p hp => by rw [Finset.mem_singleton.mp hp]; exact hn) (fun g u hg => (hO g u hg).2)

end Cert.KernelIdeal.Own

end
-- ==== Proof.Steps.lean ====
/-
The kernel's single operations under the protocol: one rule for each, at a symbolic device, sub-step and copy kind.
-/
module

public import proofs.«01_k».proof.Proof.Protocol

@[expose] public section

set_option maxRecDepth 4000

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Args F)

abbrev 𝒱₀ : Variants := Variants.none

/-- The weakest precondition of a program of device `c`'s core. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The shared records -/

/-- The cells of a device: its handshake cell, and both sides of every copy. -/
abbrev CI : Type := Option (Fin 2 × Fin 8 × Fin 7)
def csem : CI → SemLoc sig
  | none => .reg barS
  | some (0, s, k) => .dma (sndSem s k)
  | some (1, s, k) => .dma (rcvSem s k)
abbrev kcell (ck : Dev nD × CI) : GSem nD τ sig := ((ck.1 : Thread nD τ), csem ck.2)

/-- Every cell's invariant, and that its round 0 is reached. -/
def records (K : Dev nD × CI → ℕ) : sProp 𝕄 :=
  iprop((bigSep Finset.univ fun ck : Dev nD × CI => cellInv ER (rd I) (K ck) (kcell ck))
    ∗ bigSep Finset.univ fun ck : Dev nD × CI => reached ER (kcell ck) 0)
/-- What every step may use over and over: the records and the level facts. -/
def ctx (K : Dev nD × CI → ℕ) : sProp 𝕄 := iprop(records I K ∗ levAts L lv)

instance records_persistent (K : Dev nD × CI → ℕ) : BI.Persistent (records I K) := by unfold records; infer_instance
instance ctx_persistent (K : Dev nD × CI → ℕ) : BI.Persistent (ctx I K) := by unfold ctx; infer_instance

variable (K : Dev nD × CI → ℕ)

theorem inv_at (ck : Dev nD × CI) :
    (bigSep Finset.univ fun ck : Dev nD × CI => (cellInv ER (rd I) (K ck) (kcell ck) : sProp 𝕄)) ⊢ cellInv ER (rd I) (K ck) (kcell ck) :=
  bigSep_elim (Finset.mem_univ ck)
theorem reached_at (ck : Dev nD × CI) :
    (bigSep Finset.univ fun ck : Dev nD × CI => (reached ER (kcell ck) 0 : sProp 𝕄)) ⊢ reached ER (kcell ck) 0 :=
  bigSep_elim (Finset.mem_univ ck)
theorem ctx_inv (ck : Dev nD × CI) : ctx I K ⊢ cellInv ER (rd I) (K ck) (kcell ck) := by
  unfold ctx records
  iintro ⟨⟨H, -⟩, -⟩
  iapply (inv_at I K ck); iexact H
theorem ctx_reached (ck : Dev nD × CI) : ctx I K ⊢ reached ER (kcell ck) 0 := by
  unfold ctx records
  iintro ⟨⟨-, H⟩, -⟩
  iapply (reached_at (F := F) ck); iexact H
theorem ctx_mayWait (c : Dev nD) (sm : SemLoc sig) (n : ℕ) (hn : lv ((c : Thread nD τ), sm) () ≤ n) {O : CellTallies nD τ sig Unit} (hO : Above n O) :
    ctx I K ⊢ MayWait (c : Thread nD τ) sm () O := by
  unfold ctx
  exact sep_elim_right.trans (mayWait_of_above c sm n hn hO)

/-! ## What a device holds of its cells -/

/-- What it owes, whatever it has waited on. -/
def ow (c : Dev nD) (O : CellTallies nD τ sig Unit) : sProp 𝕄 := iprop(∃ W, owes (c : Thread nD τ) O W)
/-- A cell it may wait on: the credit and the position. -/
def hold (g : GSem nD τ sig) : sProp 𝕄 := iprop(cred (tallyAt g () N) ∗ atPos ER g 0 ∅ 0)
/-- A cell it has waited on. -/
def fin1 (g : GSem nD τ sig) : sProp 𝕄 := atPos ER g 1 ∅ 0
/-- The two tokens of a copy. -/
def tok (c : Dev nD) (s : Fin 8) (k : Fin 7) : sProp 𝕄 :=
  iprop(dutyTok ER (sndCell c s k) 0 (0 : Fin 6) ∗ dutyTok ER (rcvCell (peer k c) s k) 0 (0 : Fin 6))

/-! ## Row blocks -/

theorem row_set (A : Buf8) (s : Fin 8) : (row A s).view.set = (A.access (rowRect s)).set := by
  show ((A.access (rowRect s)).reshape _ _).set = _
  rw [View.set_reshape]

/-- The copy's landing, read as a row block: what the source's row block reads. -/
theorem landed_read (A B : Buf8) (s : Fin 8) (fs : A.view.ty.Contents (Elt F)) (fd : B.view.ty.Contents (Elt F)) :
    (B.access (rowRect s)).read (Elt F) ((row B s).view.write (Elt F) fd ((row A s).view.read (Elt F) fs) Finset.univ)
      = (A.access (rowRect s)).read (Elt F) fs := by
  have h := View.read_write_univ (v := (row B s).view) (Val := Elt F) fd ((row A s).view.read (Elt F) fs)
  funext x
  have hx := congrFun h ((Shape.reshapeEquiv (squeezes_S1x32x1024_S32x1024.numel_eq)).symm x)
  have e (V : Buf8) (f : V.view.ty.Contents (Elt F)) (y : S32x1024.Idx) :
      (row V s).view.read (Elt F) f y = (V.access (rowRect s)).read (Elt F) f (Shape.reshapeEquiv (squeezes_S1x32x1024_S32x1024.numel_eq) y) := rfl
  rw [e, e] at hx
  simpa only [Equiv.apply_symm_apply] using hx

/-- A row block at two shares holding the same values is the row block at both together. -/
theorem rowPts_split (A : Buf8) (c : Dev nD) (s : Fin 8) (q : PosShare TreeShare) (v : RowV F) :
    rowPts A c s q v ⊢ iprop(rowPts A c s q.left v ∗ rowPts A c s q.right v) := by
  unfold rowPts
  iintro ⟨%f, H, %h⟩
  ihave H' := (pointsTo_share (PosShare.mem_left_op_right q)).1 $$ H
  icases H' with ⟨H1, H2⟩
  isplitl [H1]
  · iexists f; isplitl; · iexact H1
    ipureintro; exact h
  · iexists f; isplitl; · iexact H2
    ipureintro; exact h

theorem rowPts_join (A : Buf8) (c : Dev nD) (s : Fin 8) (q : PosShare TreeShare) (v : RowV F) :
    iprop(rowPts A c s q.left v ∗ rowPts A c s q.right v) ⊢ rowPts A c s q v := by
  unfold rowPts
  iintro ⟨⟨%f, H1, %h⟩, ⟨%g, H2, %h'⟩⟩
  have e : ∀ i ∈ (A.access (rowRect s)).set, g i = f i := fun i hi => by
    obtain ⟨x, -, rfl⟩ := Finset.mem_map.mp (show i ∈ Finset.univ.map (A.access (rowRect s)).emb from hi)
    have := congrFun (h'.trans h.symm) x
    exact (cast_inj _).mp this
  ihave H2' := (Entails.of_eq (pointsTo_congr e)) $$ H2
  iexists f
  isplitl
  · iapply (pointsTo_share (PosShare.mem_left_op_right q)).2
    isplitl [H1] <;> iassumption
  ipureintro; exact h

theorem rowPts_any (A : Buf8) (c : Dev nD) (s : Fin 8) (v : RowV F) : rowPts A c s fullShare v ⊢ rowAny A c s := by
  unfold rowPts rowAny
  iintro ⟨%f, H, -⟩
  iexists f; iexact H

/-! ## Loads and stores of row blocks -/

theorem wp_loadRow {α : Type} {Q : α → sProp 𝕄} (c : Dev nD) (s : Fin 8) (A : Buf8) (q : PosShare TreeShare) (v : RowV F) (k : RowV F → Prog (TpuEff nD τ sig (Elt F) Λ₀ .tc) α) :
    rowPts A c s q v ⊢ iprop((rowPts A c s q v -∗ wpc c (k v) Q) -∗ wpc c (loadRow s A >>= k) Q) := by
  unfold rowPts
  iintro ⟨%f, H, %h⟩ Hk
  unfold loadRow
  rw [Prog.bind_lift]
  iapply (wp_load_rect 𝒱₀ (c : Thread nD τ) none Set.univ (m := A) (r := rowRect s) (Finset.Subset.refl _)) $$ H
  iintro H
  rw [h]
  iapply Hk
  iexists f
  isplitl; · iexact H
  ipureintro; exact h

theorem wp_loadRow_any {α : Type} {Q : α → sProp 𝕄} (c : Dev nD) (s : Fin 8) (A : Buf8) (k : RowV F → Prog (TpuEff nD τ sig (Elt F) Λ₀ .tc) α) :
    rowAny A c s ⊢ iprop((∀ v, rowAny A c s -∗ wpc c (k v) Q) -∗ wpc c (loadRow s A >>= k) Q) := by
  unfold rowAny
  iintro ⟨%f, H⟩ Hk
  unfold loadRow
  rw [Prog.bind_lift]
  iapply (wp_load_rect 𝒱₀ (c : Thread nD τ) none Set.univ (m := A) (r := rowRect s) (Finset.Subset.refl _)) $$ H
  iintro H
  iapply Hk
  iexists f; iexact H

theorem wp_storeRow {α : Type} {Q : α → sProp 𝕄} (c : Dev nD) (s : Fin 8) (A : Buf8) (hA : A.IsWhole) (v : RowV F) (k : PUnit → Prog (TpuEff nD τ sig (Elt F) Λ₀ .tc) α) :
    rowAny A c s ⊢ iprop((rowPts A c s fullShare v -∗ wpc c (k ⟨⟩) Q) -∗ wpc c (storeRow s A hA v >>= k) Q) := by
  unfold rowAny rowPts
  iintro ⟨%f, H⟩ Hk
  unfold storeRow
  rw [Prog.bind_lift]
  iapply (wp_store 𝒱₀ (c : Thread nD τ) none Set.univ (m := A) (r := rowRect s) (Mk := Finset.univ) (by rw [View.setOn_univ])) $$ H
  iintro H
  iapply Hk
  iexists _
  isplitl; · iexact H
  ipureintro; exact View.read_write_univ _ _

/-! ## Copies -/

theorem credit_src (k : Fin 7) (s : Fin 8) : (row (srcBuf k) s).view.dmaCredit = N := by
  fin_cases k <;> fin_cases s <;> rfl
theorem credit_dst (k : Fin 7) (s : Fin 8) : (row (dstBuf k) s).view.dmaCredit = N := by
  fin_cases k <;> fin_cases s <;> rfl

theorem routes_dev (c c' : Dev nD) : τ.routes (c : Thread nD τ) (c' : Thread nD τ) = true := by
  routes

/-- Starting a copy: its source at its share, the landing row block on the receiver and the two tokens are given up,
    the receiver's credit comes off what is owed, and the sending side may be waited on. -/
theorem wp_sendRow {α : Type} {Q : α → sProp 𝕄} (c : Dev nD) (k : Fin 7) (s : Fin 8) (A B : Buf8) (hA : A.IsWhole) (hB : B.IsWhole) (eA : A = srcBuf k) (eB : B = dstBuf k)
    (hu : sendUsed c k = true) (c' : Dev nD) (hc : c' = peer k c) (O : CellTallies nD τ sig Unit)
    (kk : PUnit → Prog (TpuEff nD τ sig (Elt F) Λ₀ .tc) α) :
    iprop(ctx I K ∗ rowPts (srcBuf k) c s (shr k) (srcVal I c k s) ∗ rowAny (dstBuf k) (peer k c) s ∗ ow c (O + oweK c s k) ∗ tok c s k)
      ⊢ iprop((cred (tallyAt (sndCell c s k) () N) ∗ ow c O -∗ wpc c (kk ⟨⟩) Q) -∗ wpc c (sendRow k s A B hA hB c' >>= kk) Q) := by
  subst eA eB hc
  unfold rowPts rowAny ow tok
  iintro ⟨#HC, ⟨%fs, Hs, %hv⟩, ⟨%fd, Hd⟩, ⟨%W, HO⟩, HtS, HtR⟩ Hk
  unfold sendRow
  rw [Prog.bind_lift]
  rw [← row_set, ← row_set]
  iapply (Rounds.wp_send_pointsTo 𝒱₀ ER (rd I) (c : Thread nD τ) none (c' := (peer k c : Thread nD τ)) (src := row (srcBuf k) s) (dst := row (dstBuf k) s) (sS := .dma (sndSem s k)) (sem := .dma (rcvSem s k))
      (κ₁ := K (c, some (0, s, k))) (κ₂ := K (peer k c, some (1, s, k)))
      (r₁ := 0) (r₂ := 0) (d₁ := (0 : Fin 6)) (d₂ := (0 : Fin 6)) (fs := fs) (fd := fd) (q := shr k)
      (by rw [duties_snd I c s k hu]; exact Finset.mem_singleton_self _)
      (by rw [duties_rcv I (peer k c) s k (by unfold recvUsed; rw [peer_peer]; exact hu)]; exact Finset.mem_singleton_self _)
      () () N (credit_dst k s) rfl rfl O rfl (W := W)
      (by
        rw [payload_snd]; unfold sndPay rowPts; rw [row_set]
        iintro H; iexists fs; isplitl; · iexact H
        ipureintro; exact hv)
      (by
        rw [payload_rcv]; unfold rcvPay rowPts; rw [row_set, peer_peer]
        iintro H; iexists _; isplitl; · iexact H
        ipureintro; rw [landed_read]; exact hv)) $$ [Hs Hd HO HtS HtR]
  · isplitr; · iapply (ctx_inv I K (c, some (0, s, k))); iexact HC
    isplitr; · iapply (ctx_inv I K (peer k c, some (1, s, k))); iexact HC
    isplitl [Hs]; · iexact Hs
    isplitl [Hd]; · iexact Hd
    isplitl [HO]; · iexact HO
    isplitl [HtS]; · iexact HtS
    isplitr; · iapply (ctx_reached I K (c, some (0, s, k))); iexact HC
    isplitl [HtR]; · iexact HtR
    iapply (ctx_reached I K (peer k c, some (1, s, k))); iexact HC
  iintro ⟨Hc, HO⟩
  iapply Hk
  isplitl [Hc]; · iexact Hc
  iexists W; iexact HO

/-- Waiting for a received row block: it comes with the wait. -/
theorem wp_waitRcv {α : Type} {Q : α → sProp 𝕄} (c : Dev nD) (k : Fin 7) (s : Fin 8) (A B : Buf8) (hA : A.IsWhole) (hB : B.IsWhole) (eB : B = dstBuf k)
    (hu : recvUsed c k = true) (n : ℕ) (hn : lv (rcvCell c s k) () ≤ n) (O : CellTallies nD τ sig Unit) (hO : Above n O)
    (kk : PUnit → Prog (TpuEff nD τ sig (Elt F) Λ₀ .tc) α) :
    iprop(ctx I K ∗ hold (rcvCell c s k) ∗ ow c O)
      ⊢ iprop((rcvPay I c s k ∗ fin1 (rcvCell c s k) ∗ ow c O -∗ wpc c (kk ⟨⟩) Q) -∗ wpc c (waitRow (rcvSem s k) s A B hA hB >>= kk) Q) := by
  subst eB
  unfold hold ow fin1
  iintro ⟨#HC, ⟨Hc, Hat⟩, ⟨%W, HO⟩⟩ Hk
  unfold waitRow
  rw [Prog.bind_lift]
  iapply (Rounds.wp_wait_rest_token 𝒱₀ ER (rd I) (c : Thread nD τ) none (κ := K (c, some (1, s, k)))
      (wpE_waitDma2_eq 𝒱₀ (c : Thread nD τ) none Set.univ) (Set.mem_univ _) () (O := O) (W := W) (R := 0) (m := 0) (T := ∅)
      (by rw [Nat.zero_add, expect_rcv I c s k hu]; exact credit_dst k s)) $$ [Hc HO Hat]
  · isplitr; · iapply (ctx_inv I K (c, some (1, s, k))); iexact HC
    isplitl [Hc]; · rw [credit_dst]; iexact Hc
    isplitl [HO]; · iexact HO
    isplitr; · iapply (ctx_mayWait I K c (.dma (rcvSem s k)) n hn hO); iexact HC
    iexact Hat
  iintro ⟨HO, Hat, -, Hpay⟩
  ihave Hpay := (Entails.of_eq (rest_rcv I c s k hu)) $$ Hpay
  iapply Hk
  isplitl [Hpay]; · iexact Hpay
  isplitl [Hat]; · iexact Hat
  iexists _; iexact HO

/-- Waiting for a sent row block to have left: its source comes back. -/
theorem wp_waitSnd {α : Type} {Q : α → sProp 𝕄} (c : Dev nD) (k : Fin 7) (s : Fin 8) (A B : Buf8) (hA : A.IsWhole) (hB : B.IsWhole) (eB : B = srcBuf k)
    (hu : sendUsed c k = true) (kk : PUnit → Prog (TpuEff nD τ sig (Elt F) Λ₀ .tc) α) :
    iprop(ctx I K ∗ hold (sndCell c s k) ∗ ow c 0)
      ⊢ iprop((sndPay I c s k ∗ fin1 (sndCell c s k) ∗ ow c 0 -∗ wpc c (kk ⟨⟩) Q) -∗ wpc c (waitRow (sndSem s k) s A B hA hB >>= kk) Q) := by
  subst eB
  unfold hold ow fin1
  iintro ⟨#HC, ⟨Hc, Hat⟩, ⟨%W, HO⟩⟩ Hk
  unfold waitRow
  rw [Prog.bind_lift]
  iapply (Rounds.wp_wait_rest_token 𝒱₀ ER (rd I) (c : Thread nD τ) none (κ := K (c, some (0, s, k)))
      (wpE_waitDma2_eq 𝒱₀ (c : Thread nD τ) none Set.univ) (Set.mem_univ _) () (O := 0) (W := W) (R := 0) (m := 0) (T := ∅)
      (by rw [Nat.zero_add, expect_snd I c s k hu]; exact credit_src k s)) $$ [Hc HO Hat]
  · isplitr; · iapply (ctx_inv I K (c, some (0, s, k))); iexact HC
    isplitl [Hc]; · rw [credit_src]; iexact Hc
    isplitl [HO]; · iexact HO
    isplitr; · rw [MayWait_zero]; iempintro
    iexact Hat
  iintro ⟨HO, Hat, -, Hpay⟩
  ihave Hpay := (Entails.of_eq (rest_snd I c s k hu)) $$ Hpay
  iapply Hk
  isplitl [Hpay]; · iexact Hpay
  isplitl [Hat]; · iexact Hat
  iexists _; iexact HO

/-! ## The handshake -/

theorem wp_signalBar {α : Type} {Q : α → sProp 𝕄} (c : Dev nD) (j : Fin 6) (c' : Dev nD) (hc : c' = jp j c) (O : CellTallies nD τ sig Unit)
    (kk : PUnit → Prog (TpuEff nD τ sig (Elt F) Λ₀ .tc) α) :
    iprop(ctx I K ∗ ow c (O + oweBar c j) ∗ dutyTok ER (barCell (jp j c)) 0 j ∗ barPay (jp j c) j)
      ⊢ iprop((ow c O -∗ wpc c (kk ⟨⟩) Q) -∗ wpc c ((semSignalWord c' barS 1#32 : KProg F PUnit) >>= kk) Q) := by
  subst hc
  unfold ow
  iintro ⟨#HC, ⟨%W, HO⟩, Ht, Hp⟩ Hk
  unfold semSignalWord
  rw [Prog.bind_op]
  simp only [Prog.bind_ret]
  iapply (Rounds.wp_signal 𝒱₀ ER (rd I) (c : Thread nD τ) none (dst := (jp j c : Thread nD τ)) (κ := K (jp j c, none))
      (d := j) (by rw [duties_bar]; exact Finset.mem_univ _) (show (1 : ℕ) = _ by decide) () O rfl) $$ [HO Ht Hp]
  · isplitr; · iapply (ctx_inv I K (jp j c, none)); iexact HC
    isplitl [HO]; · iexact HO
    isplitl [Ht]; · iexact Ht
    isplitl [Hp]; · rw [payload_bar]; iexact Hp
    iapply (ctx_reached I K (jp j c, none)); iexact HC
  iintro HO
  iapply Hk
  iexists W; iexact HO

theorem wp_waitBar {α : Type} {Q : α → sProp 𝕄} (c : Dev nD) (kk : PUnit → Prog (TpuEff nD τ sig (Elt F) Λ₀ .tc) α) :
    iprop(ctx I K ∗ cred (tallyAt (barCell c) () 6) ∗ atPos ER (barCell c) 0 ∅ 0 ∗ ow c (O₁ c))
      ⊢ iprop(((bigSep Finset.univ fun j : Fin 6 => barPay c j) ∗ fin1 (barCell c) ∗ ow c (O₁ c) -∗ wpc c (kk ⟨⟩) Q)
        -∗ wpc c ((semWaitWord barS 6#32 : KProg F PUnit) >>= kk) Q) := by
  unfold ow fin1
  iintro ⟨#HC, Hc, Hat, ⟨%W, HO⟩⟩ Hk
  unfold semWaitWord
  rw [Prog.bind_op]
  simp only [Prog.bind_ret]
  iapply (Rounds.wp_wait_rest_token 𝒱₀ ER (rd I) (c : Thread nD τ) none (κ := K (c, none))
      (wpE_semWait_eq 𝒱₀ (c : Thread nD τ) none Set.univ) (Set.mem_univ _) () (O := O₁ c) (W := W) (R := 0) (m := 0) (T := ∅)
      (by rw [expect_bar]; decide)) $$ [Hc HO Hat]
  · isplitr; · iapply (ctx_inv I K (c, none)); iexact HC
    isplitl [Hc]; · iexact Hc
    isplitl [HO]; · iexact HO
    isplitr; · iapply (ctx_mayWait I K c (.reg barS) 1 (le_refl _) (above_O₁ c)); iexact HC
    iexact Hat
  iintro ⟨HO, Hat, -, Hpay⟩
  ihave Hpay := (Entails.of_eq (rest_bar I c)) $$ Hpay
  iapply Hk
  isplitl [Hpay]; · iexact Hpay
  isplitl [Hat]; · iexact Hat
  iexists _; iexact HO

/-! ## The result's buffer -/

/-- The result's buffer, every block `D` names holding its values. -/
def outPts (c : Dev nD) (D : Fin 4 → Fin 8 → Prop) : sProp 𝕄 :=
  iprop(∃ f : Buf (Elt F) (oM.view.loc (c : Thread nD τ)), (oM.view.loc (c : Thread nD τ) ↦{fullShare} f)
    ∗ ⌜∀ q s, D q s → (oM.access (blkRect q s)).read (Elt F) f = outv I c q s⌝)

theorem wp_loadOut {α : Type} {Q : α → sProp 𝕄} (c : Dev nD) (D : Fin 4 → Fin 8 → Prop) (off : Fin 2 → Nat) (h : ∀ a, off a + S32x1024.size a ≤ S1024x1024.size a)
    (kk : Vec F S32x1024 .f32 → Prog (TpuEff nD τ sig (Elt F) Λ₀ .tc) α) :
    outPts I c D ⊢ iprop((∀ v, outPts I c D -∗ wpc c (kk v) Q) -∗ wpc c (loadOut off h >>= kk) Q) := by
  unfold outPts
  iintro ⟨%f, H, %hD⟩ Hk
  unfold loadOut
  rw [Prog.bind_lift]
  iapply (wp_load_rect 𝒱₀ (c : Thread nD τ) none Set.univ (m := oM) (r := outRect off h) (Finset.subset_univ _)) $$ H
  iintro H
  iapply Hk
  iexists f
  isplitl; · iexact H
  ipureintro; exact hD

theorem blk_disjoint {q q' : Fin 4} {s s' : Fin 8} (h : ¬ (q = q' ∧ s = s')) : Disjoint (blkRect q s).set (blkRect q' s').set := by
  refine Rect.disjoint_of_separated _ _ (0 : Fin 2) ?_
  have hs := s.isLt; have hs' := s'.isLt
  show (32 = 0 ∨ (256 * q.val + 32 * s.val) + 1 * (32 - 1) < 256 * q'.val + 32 * s'.val)
    ∨ (32 = 0 ∨ (256 * q'.val + 32 * s'.val) + 1 * (32 - 1) < 256 * q.val + 32 * s.val)
  have : ¬ (q.val = q'.val ∧ s.val = s'.val) := fun e => h ⟨Fin.ext e.1, Fin.ext e.2⟩
  omega

theorem wp_storeOut {α : Type} {Q : α → sProp 𝕄} (c : Dev nD) (D D' : Fin 4 → Fin 8 → Prop) (q : Fin 4) (s : Fin 8) (hD : ∀ q' s', D' q' s' → D q' s' ∨ (q' = q ∧ s' = s))
    (off : Fin 2 → Nat) (h : ∀ a, off a + S32x1024.size a ≤ S1024x1024.size a) (ho : off = blkOff q s)
    (v : FVec F S32x1024 .f32) (hv : v = outv I c q s) (kk : PUnit → Prog (TpuEff nD τ sig (Elt F) Λ₀ .tc) α) :
    outPts I c D ⊢ iprop((outPts I c D' -∗ wpc c (kk ⟨⟩) Q) -∗ wpc c (storeOut off h v >>= kk) Q) := by
  subst ho hv
  unfold outPts
  iintro ⟨%f, H, %hf⟩ Hk
  unfold storeOut
  rw [Prog.bind_lift]
  iapply (wp_store 𝒱₀ (c : Thread nD τ) none Set.univ (m := oM) (r := blkRect q s) (Mk := Finset.univ) (Finset.subset_univ _)) $$ H
  iintro H
  iapply Hk
  iexists _
  isplitl; · iexact H
  ipureintro
  intro q' s' hq
  by_cases e : q' = q ∧ s' = s
  · obtain ⟨rfl, rfl⟩ := e
    exact View.read_write_univ _ _
  · refine (View.read_slice_write_slice_of_disjoint (v := oM.view) (blkRect q' s') (blkRect q s) f (outv I c q s) Finset.univ ?_).trans (hf q' s' ((hD q' s' hq).resolve_right e))
    rw [View.setOn_univ]
    show Disjoint ((View.whole cc0_stg3_0).slice (blkRect q' s')).set ((View.whole cc0_stg3_0).slice (blkRect q s)).set
    rw [View.set_slice_whole, View.set_slice_whole]
    exact blk_disjoint e

end Cert.KernelIdeal.Own

end
-- ==== Proof.Parts.lean ====
/-
The kernel's larger steps under the protocol: a buffer as its row blocks, a loop over the sub-steps, the entry
handshake, and the normalisation of a block with its three copies.
-/
module

public import proofs.«01_k».proof.Proof.Steps

@[expose] public section

set_option maxRecDepth 4000

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Args F) (K : Dev nD × CI → ℕ)

/-! ## A buffer by its row blocks -/

/-- The elements of row block `s` of a buffer. -/
abbrev rowSet (A : Buf8) (s : Fin 8) : Finset A.view.ty.Idx := (A.access (rowRect s)).set

theorem rows_disjoint (A : Buf8) (s s' : Fin 8) (h : s ≠ s') : Disjoint (rowSet A s) (rowSet A s') := by
  unfold rowSet
  rw [View.set_slice, View.set_slice]
  refine (Finset.disjoint_map _).mpr ?_
  exact Ring.lead_disjoint (s := S8x32x1024) (NB := 8) (R := 1) (a₀ := 0) (fun s : Fin 8 => ![s.val, 0, 0]) S1x32x1024.size rowInb (fun s => (Nat.one_mul _).symm) rfl s s' h
theorem rows_mem (A : Buf8) (hA : A.IsWhole) (i : A.view.ty.Idx) : ∃ s : Fin 8, i ∈ rowSet A s := by
  have h : (Finset.univ.biUnion fun s : Fin 8 => (rowRect s).set) = Finset.univ :=
    Ring.lead_cover (s := S8x32x1024) (NB := 8) (R := 1) (a₀ := 0) (fun s : Fin 8 => ![s.val, 0, 0]) S1x32x1024.size rowInb (fun s => (Nat.one_mul _).symm)
      (by decide) rfl (by decide) (by decide)
  have hi : i ∈ A.view.set := by rw [hA.set_eq_univ]; exact Finset.mem_univ i
  obtain ⟨x, -, rfl⟩ := Finset.mem_map.mp (show i ∈ Finset.univ.map A.view.emb from hi)
  have hx : x ∈ (Finset.univ.biUnion fun s : Fin 8 => (rowRect s).set) := by rw [h]; exact Finset.mem_univ x
  obtain ⟨s, -, hs⟩ := Finset.mem_biUnion.mp hx
  refine ⟨s, ?_⟩
  unfold rowSet
  rw [View.set_slice]
  exact Finset.mem_map_of_mem _ hs

/-- The same sets, as element sets of the buffer on a device. -/
def rowSetAt (A : Buf8) (c : Dev nD) (s : Fin 8) : Finset (Idx (A.view.loc (c : Thread nD τ))) := rowSet A s
theorem rowsAt_disjoint (A : Buf8) (c : Dev nD) (s s' : Fin 8) (h : s ≠ s') : Disjoint (rowSetAt A c s) (rowSetAt A c s') := by
  have := Finset.disjoint_left.mp (rows_disjoint A s s' h)
  exact Finset.disjoint_left.mpr this
theorem rowsAt_cover (A : Buf8) (hA : A.IsWhole) (c : Dev nD) : Finset.univ.biUnion (rowSetAt A c) = Finset.univ := by
  ext i
  simp only [Finset.mem_biUnion, Finset.mem_univ, true_and, iff_true]
  exact rows_mem A hA i

theorem rowAny_intro (A : Buf8) (c : Dev nD) (s : Fin 8) (f : Buf (Elt F) (A.view.loc (c : Thread nD τ))) :
    (A.view.loc (c : Thread nD τ) ↦[rowSetAt A c s]{fullShare} f) ⊢ (rowAny A c s : sProp 𝕄) := by
  unfold rowAny rowSetAt rowSet
  iintro H; iexists f; iexact H
theorem rowPts_intro (A : Buf8) (c : Dev nD) (s : Fin 8) (f : Buf (Elt F) (A.view.loc (c : Thread nD τ))) :
    (A.view.loc (c : Thread nD τ) ↦[rowSetAt A c s]{fullShare} f) ⊢ (rowPts A c s fullShare ((A.access (rowRect s)).read (Elt F) f) : sProp 𝕄) := by
  unfold rowPts rowSetAt rowSet
  iintro H; iexists f; isplitl; · iexact H
  ipureintro; rfl

/-- A whole buffer at any contents is its row blocks at any contents. -/
theorem bufAny_of_whole (A : Buf8) (hA : A.IsWhole) (c : Dev nD) (f : Buf (Elt F) (A.view.loc (c : Thread nD τ))) :
    (A.view.loc (c : Thread nD τ) ↦{fullShare} f) ⊢ (bufAny A c : sProp 𝕄) := by
  unfold bufAny
  rw [Ring.pointsTo_blocks (rowSetAt A c) (rowsAt_disjoint A c) (rowsAt_cover A hA c) f]
  exact bigSep_mono fun s _ => rowAny_intro A c s f
theorem whole_of_bufAny (A : Buf8) (hA : A.IsWhole) (c : Dev nD) (f₀ : Buf (Elt F) (A.view.loc (c : Thread nD τ))) :
    (bufAny A c : sProp 𝕄) ⊢ iprop(∃ f, A.view.loc (c : Thread nD τ) ↦{fullShare} f) :=
  Ring.pointsTo_blocks_join_exists (rowSetAt A c) (rowsAt_disjoint A c) (rowsAt_cover A hA c) f₀
/-- A whole buffer is its row blocks, each reading what the buffer's contents read there. -/
theorem rows_of_whole (A : Buf8) (hA : A.IsWhole) (c : Dev nD) (f : Buf (Elt F) (A.view.loc (c : Thread nD τ))) :
    (A.view.loc (c : Thread nD τ) ↦{fullShare} f) ⊢ (bigSep Finset.univ fun s : Fin 8 => rowPts A c s fullShare ((A.access (rowRect s)).read (Elt F) f) : sProp 𝕄) := by
  rw [Ring.pointsTo_blocks (rowSetAt A c) (rowsAt_disjoint A c) (rowsAt_cover A hA c) f]
  exact bigSep_mono fun s _ => rowPts_intro A c s f

/-! ## Loops -/

theorem bigSep_fin8 (Φ : Fin 8 → sProp 𝕄) : bigSep Finset.univ Φ
    = iprop(Φ 0 ∗ Φ 1 ∗ Φ 2 ∗ Φ 3 ∗ Φ 4 ∗ Φ 5 ∗ Φ 6 ∗ Φ 7) := by
  rw [bigSep_univ_eq_bigSepL [0, 1, 2, 3, 4, 5, 6, 7] (by decide) (by decide)]
  rfl

/-- A loop over the sub-steps: a step takes the running resources from `n` to `n + 1` and its own from before to after. -/
theorem wp_loop8 {α : Type} {Q : α → sProp 𝕄} (c : Dev nD) (Γ : sProp 𝕄) [BI.Persistent Γ] (R : ℕ → sProp 𝕄) (Pre Post : Fin 8 → sProp 𝕄)
    (f : Fin 8 → KProg F PUnit)
    (h : ∀ (s : Fin 8) (k : PUnit → Prog (TpuEff nD τ sig (Elt F) Λ₀ .tc) α),
      iprop(Γ ∗ R s.val ∗ Pre s) ⊢ iprop((R (s.val + 1) ∗ Post s -∗ wpc c (k ⟨⟩) Q) -∗ wpc c (f s >>= k) Q))
    (k : PUnit → Prog (TpuEff nD τ sig (Elt F) Λ₀ .tc) α) :
    iprop(Γ ∗ R 0 ∗ bigSep Finset.univ Pre) ⊢ iprop((R 8 ∗ bigSep Finset.univ Post -∗ wpc c (k ⟨⟩) Q) -∗ wpc c (loop8 f >>= k) Q) := by
  rw [bigSep_fin8, bigSep_fin8]
  have h' (n n' : ℕ) (s : Fin 8) (e : s.val = n) (e' : n + 1 = n') (k : PUnit → Prog (TpuEff nD τ sig (Elt F) Λ₀ .tc) α) :
      iprop(Γ ∗ R n ∗ Pre s) ⊢ iprop((R n' ∗ Post s -∗ wpc c (k ⟨⟩) Q) -∗ wpc c (f s >>= k) Q) := by
    subst e e'; exact h s k
  unfold loop8
  simp only [bind_assoc]
  iintro ⟨#G, HR, H0, H1, H2, H3, H4, H5, H6, H7⟩ Hk
  iapply (h' 0 1 0 rfl rfl _) $$ [HR H0]
  · isplitr; · iexact G
    isplitl [HR] <;> iassumption
  iintro ⟨HR, H0⟩
  iapply (h' 1 2 1 rfl rfl _) $$ [HR H1]
  · isplitr; · iexact G
    isplitl [HR] <;> iassumption
  iintro ⟨HR, H1⟩
  iapply (h' 2 3 2 rfl rfl _) $$ [HR H2]
  · isplitr; · iexact G
    isplitl [HR] <;> iassumption
  iintro ⟨HR, H2⟩
  iapply (h' 3 4 3 rfl rfl _) $$ [HR H3]
  · isplitr; · iexact G
    isplitl [HR] <;> iassumption
  iintro ⟨HR, H3⟩
  iapply (h' 4 5 4 rfl rfl _) $$ [HR H4]
  · isplitr; · iexact G
    isplitl [HR] <;> iassumption
  iintro ⟨HR, H4⟩
  iapply (h' 5 6 5 rfl rfl _) $$ [HR H5]
  · isplitr; · iexact G
    isplitl [HR] <;> iassumption
  iintro ⟨HR, H5⟩
  iapply (h' 6 7 6 rfl rfl _) $$ [HR H6]
  · isplitr; · iexact G
    isplitl [HR] <;> iassumption
  iintro ⟨HR, H6⟩
  iapply (h' 7 8 7 rfl rfl _) $$ [HR H7]
  · isplitr; · iexact G
    isplitl [HR] <;> iassumption
  iintro ⟨HR, H7⟩
  iapply Hk
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The staged arguments -/

/-- The arguments' buffers of a device. -/
def xPts (c : Dev nD) : sProp 𝕄 := iprop(xM.view.loc (c : Thread nD τ) ↦{fullShare} (I.x c))
def resPts (c : Dev nD) : sProp 𝕄 := iprop(rM.view.loc (c : Thread nD τ) ↦{fullShare} (I.r c))
def gamPts (c : Dev nD) : sProp 𝕄 := iprop(gM.view.loc (c : Thread nD τ) ↦{fullShare} (I.g c))

theorem wp_loadRes {α : Type} {Q : α → sProp 𝕄} (c : Dev nD) (s : Fin 8) (off : Fin 2 → Nat) (h : ∀ a, off a + S32x1024.size a ≤ S1024x1024.size a)
    (ho : off = blkOff (qOf c) s) (kk : Vec F S32x1024 .bf16 → Prog (TpuEff nD τ sig (Elt F) Λ₀ .tc) α) :
    resPts I c ⊢ iprop((resPts I c -∗ wpc c (kk (resV I c s)) Q) -∗ wpc c (loadRes off h >>= kk) Q) := by
  subst ho
  unfold resPts loadRes
  rw [Prog.bind_lift]
  exact wp_load_rect 𝒱₀ (c : Thread nD τ) none Set.univ (m := rM) (r := blkRect (qOf c) s) (Finset.subset_univ _)

theorem wp_loadGamma {α : Type} {Q : α → sProp 𝕄} (c : Dev nD) (kk : Vec F S1x1024 .bf16 → Prog (TpuEff nD τ sig (Elt F) Λ₀ .tc) α) :
    gamPts I c ⊢ iprop((gamPts I c -∗ wpc c (kk (gamV I c)) Q) -∗ wpc c (loadGamma >>= kk) Q) := by
  unfold gamPts loadGamma
  rw [Prog.bind_lift]
  exact wp_load_rect 𝒱₀ (c : Thread nD τ) none Set.univ (m := gM) (r := Rect.unit (s := S1x1024) ![0, 0] S1x1024.size inb_S1x1024_S1x1024_0_0) (Finset.subset_univ _)

/-! ## Normalising a block -/

/-- What the copies of a block to the layer take: the copy buffer's row block, the landings and the tokens. -/
def layPre (c : Dev nD) (s : Fin 8) : sProp 𝕄 :=
  iprop(rowAny lnM c s ∗ rowAny qxM (peer 4 c) s ∗ rowAny qyM (peer 5 c) s ∗ rowAny qdM (peer 6 c) s ∗ tok c s 4 ∗ tok c s 5 ∗ tok c s 6)
/-- What they leave: the credits of the sending sides. -/
def layPost (c : Dev nD) (s : Fin 8) : sProp 𝕄 :=
  iprop(cred (tallyAt (sndCell c s 4) () N) ∗ cred (tallyAt (sndCell c s 5) () N) ∗ cred (tallyAt (sndCell c s 6) () N))

theorem used_layer (c : Dev nD) (k : Fin 7) (h : 4 ≤ k.val) : sendUsed c k = true := by
  unfold sendUsed; rw [if_neg (by omega), if_neg (by omega)]
theorem recv_layer (c : Dev nD) (k : Fin 7) (h : 4 ≤ k.val) : recvUsed c k = true := used_layer _ k h

theorem lnRow_full_split (c : Dev nD) (s : Fin 8) : rowPts lnM c s fullShare (lnRow I c s)
    ⊢ iprop(rowPts (srcBuf 4) c s (shr 4) (srcVal I c 4 s) ∗ rowPts (srcBuf 5) c s (shr 5) (srcVal I c 5 s) ∗ rowPts (srcBuf 6) c s (shr 6) (srcVal I c 6 s)) := by
  show rowPts lnM c s fullShare (lnRow I c s) ⊢ iprop(rowPts lnM c s fullShare.left (lnRow I c s) ∗ rowPts lnM c s fullShare.right.left (lnRow I c s) ∗ rowPts lnM c s fullShare.right.right (lnRow I c s))
  iintro H
  ihave H := (rowPts_split lnM c s fullShare _) $$ H
  icases H with ⟨H1, H2⟩
  isplitl [H1]; · iexact H1
  iapply (rowPts_split lnM c s fullShare.right _); iexact H2
theorem lnRow_full_join (c : Dev nD) (s : Fin 8) :
    iprop(sndPay I c s 4 ∗ sndPay I c s 5 ∗ sndPay I c s 6) ⊢ rowPts lnM c s fullShare (lnRow I c s) := by
  show iprop(rowPts lnM c s fullShare.left (lnRow I c s) ∗ rowPts lnM c s fullShare.right.left (lnRow I c s) ∗ rowPts lnM c s fullShare.right.right (lnRow I c s)) ⊢ rowPts lnM c s fullShare (lnRow I c s)
  iintro ⟨H1, H2⟩
  iapply (rowPts_join lnM c s fullShare _)
  isplitl [H1]; · iexact H1
  iapply (rowPts_join lnM c s fullShare.right _); iexact H2

theorem wp_lnScatter {α : Type} {Q : α → sProp 𝕄} (c : Dev nD) (s : Fin 8) (off : Fin 2 → Nat) (h : ∀ a, off a + S32x1024.size a ≤ S1024x1024.size a)
    (ho : off = blkOff (qOf c) s) (cx cy cd : Dev nD) (hx : cx = peer 4 c) (hy : cy = peer 5 c) (hd : cd = peer 6 c)
    (t : FVec F S32x1024 .f32) (ht : t = tRow I c s) (D D' : Fin 4 → Fin 8 → Prop) (hD : ∀ q' s', D' q' s' → D q' s' ∨ (q' = qOf c ∧ s' = s))
    (O : CellTallies nD τ sig Unit) (kk : PUnit → Prog (TpuEff nD τ sig (Elt F) Λ₀ .tc) α) :
    iprop(ctx I K ∗ (outPts I c D ∗ resPts I c ∗ gamPts I c) ∗ layPre c s ∗ ow c (O + oweB c s))
      ⊢ iprop(((outPts I c D' ∗ resPts I c ∗ gamPts I c) ∗ layPost c s ∗ ow c O -∗ wpc c (kk ⟨⟩) Q) -∗ wpc c (lnScatter s off h cx cy cd t >>= kk) Q) := by
  subst ht
  unfold layPre layPost lnScatter oweB
  simp only [bind_assoc, ← add_assoc]
  iintro ⟨#HC, ⟨Ho, Hr, Hg⟩, ⟨Hln, Hx, Hy, Hd, T4, T5, T6⟩, HO⟩ Hk
  iapply (wp_loadRes I c s off h ho _) $$ Hr
  iintro Hr
  iapply (wp_loadGamma I c _) $$ Hg
  iintro Hg
  iapply (wp_loadOut I c D off h _) $$ Ho
  iintro %v Ho
  iapply (wp_storeOut I c D D' (qOf c) s hD off h ho _ (by unfold outv; rw [if_pos rfl]; rfl) _) $$ Ho
  iintro Ho
  iapply (wp_loadRow_any c s lnM _) $$ Hln
  iintro %v' Hln
  iapply (wp_storeRow c s lnM _ (lnRow I c s) _) $$ Hln
  iintro Hln
  ihave Hln := (lnRow_full_split I c s) $$ Hln
  icases Hln with ⟨L4, L5, L6⟩
  iapply (wp_sendRow I K c 4 s lnM qxM _ _ rfl rfl (used_layer c 4 (by decide)) cx hx _ _) $$ [L4 Hx HO T4]
  · isplitr; · iexact HC
    isplitl [L4]; · iexact L4
    isplitl [Hx]; · iexact Hx
    isplitl [HO]; · iexact HO
    iexact T4
  iintro ⟨C4, HO⟩
  iapply (wp_sendRow I K c 5 s lnM qyM _ _ rfl rfl (used_layer c 5 (by decide)) cy hy _ _) $$ [L5 Hy HO T5]
  · isplitr; · iexact HC
    isplitl [L5]; · iexact L5
    isplitl [Hy]; · iexact Hy
    isplitl [HO]; · iexact HO
    iexact T5
  iintro ⟨C5, HO⟩
  iapply (wp_sendRow I K c 6 s lnM qdM _ _ rfl rfl (used_layer c 6 (by decide)) cd hd _ _) $$ [L6 Hd HO T6]
  · isplitr; · iexact HC
    isplitl [L6]; · iexact L6
    isplitl [Hd]; · iexact Hd
    isplitl [HO]; · iexact HO
    iexact T6
  iintro ⟨C6, HO⟩
  iapply Hk
  isplitl [Ho Hr Hg]
  · isplitl [Ho]; · iexact Ho
    isplitl [Hr]; · iexact Hr
    iexact Hg
  isplitl [C4 C5 C6]
  · isplitl [C4]; · iexact C4
    isplitl [C5]; · iexact C5
    iexact C6
  iexact HO

/-! ## The entry -/

/-- What the entry takes: the handshake's tokens and what its signals hand over, the credit and the position of the
    device's own handshake cell, the partial sums, and the buffer for its own quarter. -/
def entryPre (c : Dev nD) : sProp 𝕄 :=
  iprop(((dutyTok ER (barCell (jp 0 c)) 0 (0 : Fin 6) ∗ barPay (jp 0 c) 0) ∗ (dutyTok ER (barCell (jp 1 c)) 0 (1 : Fin 6) ∗ barPay (jp 1 c) 1)
    ∗ (dutyTok ER (barCell (jp 2 c)) 0 (2 : Fin 6) ∗ barPay (jp 2 c) 2) ∗ (dutyTok ER (barCell (jp 3 c)) 0 (3 : Fin 6) ∗ barPay (jp 3 c) 3)
    ∗ (dutyTok ER (barCell (jp 4 c)) 0 (4 : Fin 6) ∗ barPay (jp 4 c) 4) ∗ (dutyTok ER (barCell (jp 5 c)) 0 (5 : Fin 6) ∗ barPay (jp 5 c) 5))
    ∗ cred (tallyAt (barCell c) () 6) ∗ atPos ER (barCell c) 0 ∅ 0 ∗ xPts I c
    ∗ (∃ f : Buf (Elt F) (myM.view.loc (c : Thread nD τ)), myM.view.loc (c : Thread nD τ) ↦{fullShare} f))

theorem write_my (c : Dev nD) (f : Buf (Elt F) (myM.view.loc (c : Thread nD τ))) (w : Vec F S8x32x1024 .bf16) :
    (myM.access (Rect.unit (s := S8x32x1024) ![0, 0, 0] S8x32x1024.size inb_S8x32x1024_S8x32x1024_0_0_0)).write (Elt F) f w Finset.univ = w :=
  Memref.write_access_unit_zero_univ (Elt F) cc0_scratch0 (by decide) _ f w

theorem wp_entry {α : Type} {Q : α → sProp 𝕄} (c : Dev nD) (kk : PUnit → Prog (TpuEff nD τ sig (Elt F) Λ₀ .tc) α) :
    iprop(ctx I K ∗ entryPre I c ∗ ow c (O₀ c))
      ⊢ iprop(((bigSep Finset.univ fun j : Fin 6 => barPay c j) ∗ fin1 (barCell c) ∗ xPts I c
          ∗ (bigSep Finset.univ fun s : Fin 8 => rowPts myM c s fullShare (myRow I c s)) ∗ ow c (O₁ c) -∗ wpc c (kk ⟨⟩) Q)
        -∗ wpc c (entry c >>= kk) Q) := by
  unfold entryPre entry O₀
  simp only [bind_assoc]
  iintro ⟨#HC, ⟨⟨⟨T0, P0⟩, ⟨T1, P1⟩, ⟨T2, P2⟩, ⟨T3, P3⟩, ⟨T4, P4⟩, ⟨T5, P5⟩⟩, Hcr, Hat, Hx, ⟨%f, Hm⟩⟩, HO⟩ Hk
  iapply (wp_signalBar I K c 0 _ (dev1_eq c) _ _) $$ [T0 P0 HO]
  · isplitr; · iexact HC
    isplitl [HO]; · iexact HO
    isplitl [T0] <;> iassumption
  iintro HO
  iapply (wp_signalBar I K c 1 _ (dev2_eq c) _ _) $$ [T1 P1 HO]
  · isplitr; · iexact HC
    isplitl [HO]; · iexact HO
    isplitl [T1] <;> iassumption
  iintro HO
  iapply (wp_signalBar I K c 2 _ (dev3_eq c) _ _) $$ [T2 P2 HO]
  · isplitr; · iexact HC
    isplitl [HO]; · iexact HO
    isplitl [T2] <;> iassumption
  iintro HO
  iapply (wp_signalBar I K c 3 _ (dev4_eq c) _ _) $$ [T3 P3 HO]
  · isplitr; · iexact HC
    isplitl [HO]; · iexact HO
    isplitl [T3] <;> iassumption
  iintro HO
  iapply (wp_signalBar I K c 4 _ (dev5_eq c) _ _) $$ [T4 P4 HO]
  · isplitr; · iexact HC
    isplitl [HO]; · iexact HO
    isplitl [T4] <;> iassumption
  iintro HO
  iapply (wp_signalBar I K c 5 _ (dev6_eq c) _ _) $$ [T5 P5 HO]
  · isplitr; · iexact HC
    isplitl [HO]; · iexact HO
    isplitl [T5] <;> iassumption
  iintro HO
  iapply (wp_waitBar I K c _) $$ [Hcr Hat HO]
  · isplitr; · iexact HC
    isplitl [Hcr]; · iexact Hcr
    isplitl [Hat] <;> iassumption
  iintro ⟨HP, Hfin, HO⟩
  unfold xPts
  rw [Prog.bind_lift]
  iapply (wp_load_rect 𝒱₀ (c : Thread nD τ) none Set.univ (m := xM) (r := xRect c) (Finset.subset_univ _)) $$ Hx
  iintro Hx
  rw [Prog.bind_lift]
  iapply (wp_load_rect 𝒱₀ (c : Thread nD τ) none Set.univ (m := myM) (r := Rect.unit (s := S8x32x1024) ![0, 0, 0] S8x32x1024.size inb_S8x32x1024_S8x32x1024_0_0_0) (Finset.subset_univ _)) $$ Hm
  iintro Hm
  rw [Prog.bind_lift]
  iapply (wp_store 𝒱₀ (c : Thread nD τ) none Set.univ (m := myM) (r := Rect.unit (s := S8x32x1024) ![0, 0, 0] S8x32x1024.size inb_S8x32x1024_S8x32x1024_0_0_0) (Mk := Finset.univ) (Finset.subset_univ _)) $$ Hm
  iintro Hm
  ihave Hm := (rows_of_whole myM (Memref.isWhole_whole _) c _) $$ Hm
  iapply Hk
  isplitl [HP]; · iexact HP
  isplitl [Hfin]; · iexact Hfin
  isplitl [Hx]; · iexact Hx
  isplitl [Hm]
  · iapply (Entails.of_eq (congrArg (fun g => bigSep Finset.univ fun s : Fin 8 => rowPts myM c s fullShare ((myM.access (rowRect s)).read (Elt F) g)) (write_my c f (myV I c)))); iexact Hm
  iexact HO

end Cert.KernelIdeal.Own

end
-- ==== Proof.Body.lean ====
/-
The kernel's body on one device, from the entry to the last wait: the outer and the inner devices' parts, the exchange
of quarters, and the whole program.
-/
module

public import proofs.«01_k».proof.Proof.Parts

@[expose] public section

set_option maxRecDepth 4000

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Args F) (K : Dev nD × CI → ℕ)

/-- A cell not waited on yet. -/
abbrev at0 (g : GSem nD τ sig) : sProp 𝕄 := atPos ER g 0 ∅ 0
/-- The credit of a sending side. -/
abbrev sndCr (c : Dev nD) (s : Fin 8) (k : Fin 7) : sProp 𝕄 := cred (tallyAt (sndCell c s k) () N)

/-! ## An outer device -/

/-- An outer device's resources of one sub-step: before anything, after its first copy has started, after its
    normalised rows have left, and after its first copy's wait. -/
def outer0 (c : Dev nD) (s : Fin 8) : sProp 𝕄 :=
  iprop(rowPts myM c s fullShare (myRow I c s) ∗ rowAny s1M (peer 0 c) s ∗ tok c s 0 ∗ at0 (sndCell c s 0) ∗ hold (rcvCell c s 2) ∗ hold (rcvCell c s 3) ∗ layPre c s)
def outer1 (c : Dev nD) (s : Fin 8) : sProp 𝕄 :=
  iprop(hold (sndCell c s 0) ∗ hold (rcvCell c s 2) ∗ hold (rcvCell c s 3) ∗ layPre c s)
def outer2 (c : Dev nD) (s : Fin 8) : sProp 𝕄 :=
  iprop(hold (sndCell c s 0) ∗ fin1 (rcvCell c s 2) ∗ fin1 (rcvCell c s 3) ∗ rowAny pnM c s ∗ rowAny pfM c s ∗ layPost c s)
def outer3 (c : Dev nD) (s : Fin 8) : sProp 𝕄 :=
  iprop(fin1 (sndCell c s 0) ∗ rowAny myM c s ∗ fin1 (rcvCell c s 2) ∗ fin1 (rcvCell c s 3) ∗ rowAny pnM c s ∗ rowAny pfM c s ∗ layPost c s)

/-- The blocks of the device's own quarter stored before sub-step `n`. -/
def ownDone (c : Dev nD) (n : ℕ) (q : Fin 4) (s : Fin 8) : Prop := q = qOf c ∧ s.val < n
theorem ownDone_step (c : Dev nD) (s : Fin 8) : ∀ q' s', ownDone c (s.val + 1) q' s' → ownDone c s.val q' s' ∨ (q' = qOf c ∧ s' = s) := fun q' s' h => by
  unfold ownDone at *
  rcases Nat.lt_succ_iff_lt_or_eq.mp h.2 with h' | h'
  · exact .inl ⟨h.1, h'⟩
  · exact .inr ⟨h.1, Fin.ext h'⟩

section Outer
variable (c : Dev nD) (hc : inner c = false)
include hc

theorem used_outer0 : sendUsed c 0 = true := by unfold sendUsed; rw [if_pos (show (0 : Fin 7).val = 0 from rfl), hc]; rfl
omit hc in
theorem recv_outer : ∀ c : Dev nD, inner c = false → recvUsed c 2 = true ∧ recvUsed c 3 = true := by decide +kernel

theorem outer_step1 {α : Type} {Q : α → sProp 𝕄} (h : k0_cond1 c = 1#1) (s : Fin 8) (O : CellTallies nD τ sig Unit) (kk : PUnit → Prog (TpuEff nD τ sig (Elt F) Λ₀ .tc) α) :
    iprop(ctx I K ∗ ow c (O + oweK c s 0) ∗ outer0 I c s)
      ⊢ iprop((ow c O ∗ outer1 c s -∗ wpc c (kk ⟨⟩) Q) -∗ wpc c (sendRow 0 s myM s1M (Memref.isWhole_whole _) (Memref.isWhole_whole _) (devS1 c h s) >>= kk) Q) := by
  unfold outer0 outer1
  iintro ⟨#HC, HO, Hm, Hs, T, A, H⟩ Hk
  iapply (wp_sendRow I K c 0 s myM s1M _ _ rfl rfl (used_outer0 c hc) _ (devS1_eq c h s) O _) $$ [Hm Hs T HO]
  · isplitr; · iexact HC
    isplitl [Hm]; · iexact Hm
    isplitl [Hs]; · iexact Hs
    isplitl [HO]; · iexact HO
    iexact T
  iintro ⟨C, HO⟩
  iapply Hk
  isplitl [HO]; · iexact HO
  isplitl [C A]
  · unfold hold
    isplitl [C] <;> iassumption
  iexact H

theorem outer_step2 {α : Type} {Q : α → sProp 𝕄} (h : k0_cond1 c = 1#1) (s : Fin 8) (kk : PUnit → Prog (TpuEff nD τ sig (Elt F) Λ₀ .tc) α) :
    iprop(ctx I K ∗ (ow c (Rem (oweB c) s.val) ∗ outPts I c (ownDone c s.val) ∗ resPts I c ∗ gamPts I c) ∗ outer1 c s)
      ⊢ iprop(((ow c (Rem (oweB c) (s.val + 1)) ∗ outPts I c (ownDone c (s.val + 1)) ∗ resPts I c ∗ gamPts I c) ∗ outer2 c s -∗ wpc c (kk ⟨⟩) Q)
        -∗ wpc c ((do
            waitRow (rcvSem s 2) s poM pnM (Memref.isWhole_whole _) (Memref.isWhole_whole _)
            waitRow (rcvSem s 3) s poM pfM (Memref.isWhole_whole _) (Memref.isWhole_whole _)
            let a ← loadRow s pnM
            let b ← loadRow s pfM
            lnScatter s (k0_off2 c (BitVec.ofNat 32 (32 * s.val))) (k0_off2_inb c h s) (devOX c h s) (devOY c h s) (devOD c h s) (k0_pay1 a b)) >>= kk) Q) := by
  unfold outer1 outer2
  simp only [bind_assoc]
  iintro ⟨#HC, ⟨HO, Hog⟩, H0, H2, H3, Hl⟩ Hk
  iapply (wp_waitRcv I K c 2 s poM pnM _ _ rfl (recv_outer c hc).1 3 (by rw [lv_rcv]; decide) _ (above_oweB c s.val) _) $$ [H2 HO]
  · isplitr; · iexact HC
    isplitl [H2] <;> iassumption
  iintro ⟨P2, F2, HO⟩
  iapply (wp_waitRcv I K c 3 s poM pfM _ _ rfl (recv_outer c hc).2 3 (by rw [lv_rcv]; decide) _ (above_oweB c s.val) _) $$ [H3 HO]
  · isplitr; · iexact HC
    isplitl [H3] <;> iassumption
  iintro ⟨P3, F3, HO⟩
  ihave P2 := (Entails.of_eq (show rcvPay I c s 2 = rowPts pnM c s fullShare (poRow I (peer 2 c) s) from rfl)) $$ P2
  ihave P3 := (Entails.of_eq (show rcvPay I c s 3 = rowPts pfM c s fullShare (poRow I (peer 3 c) s) from rfl)) $$ P3
  iapply (wp_loadRow c s pnM fullShare _ _) $$ P2
  iintro P2
  iapply (wp_loadRow c s pfM fullShare _ _) $$ P3
  iintro P3
  iapply (wp_lnScatter I K c s _ _ (off2_eq c s) _ _ _ (devOX_eq c h s) (devOY_eq c h s) (devOD_eq c h s) _ (by unfold tRow; rw [if_neg (by rw [hc]; decide)])
      (ownDone c s.val) (ownDone c (s.val + 1)) (ownDone_step c s) (Rem (oweB c) (s.val + 1)) _) $$ [HO Hog Hl]
  · isplitr; · iexact HC
    isplitl [Hog]; · iexact Hog
    isplitl [Hl]; · iexact Hl
    iapply (Entails.of_eq (congrArg (ow c) (Rem_step (oweB c) s))); iexact HO
  iintro ⟨Hog, Hl, HO⟩
  iapply Hk
  isplitl [HO Hog]; · isplitl [HO] <;> iassumption
  isplitl [H0]; · iexact H0
  isplitl [F2]; · iexact F2
  isplitl [F3]; · iexact F3
  isplitl [P2]; · iapply (rowPts_any pnM c s _); iexact P2
  isplitl [P3]; · iapply (rowPts_any pfM c s _); iexact P3
  iexact Hl

theorem outer_step3 {α : Type} {Q : α → sProp 𝕄} (s : Fin 8) (kk : PUnit → Prog (TpuEff nD τ sig (Elt F) Λ₀ .tc) α) :
    iprop(ctx I K ∗ ow c 0 ∗ outer2 c s)
      ⊢ iprop((ow c 0 ∗ outer3 c s -∗ wpc c (kk ⟨⟩) Q) -∗ wpc c (waitRow (sndSem s 0) s s1M myM (Memref.isWhole_whole _) (Memref.isWhole_whole _) >>= kk) Q) := by
  unfold outer2 outer3
  iintro ⟨#HC, HO, H0, H⟩ Hk
  iapply (wp_waitSnd I K c 0 s s1M myM _ _ rfl (used_outer0 c hc) _) $$ [H0 HO]
  · isplitr; · iexact HC
    isplitl [H0] <;> iassumption
  iintro ⟨P, F0, HO⟩
  iapply Hk
  isplitl [HO]; · iexact HO
  isplitl [F0]; · iexact F0
  isplitl [P]
  · iapply (rowPts_any myM c s (myRow I c s))
    iapply (Entails.of_eq (show sndPay I c s 0 = rowPts myM c s fullShare (myRow I c s) from rfl)); iexact P
  iexact H

theorem wp_outer {α : Type} {Q : α → sProp 𝕄} (h : k0_cond1 c = 1#1) (kk : PUnit → Prog (TpuEff nD τ sig (Elt F) Λ₀ .tc) α) :
    iprop(ctx I K ∗ (ow c (O₁ c) ∗ outPts I c (ownDone c 0) ∗ resPts I c ∗ gamPts I c) ∗ bigSep Finset.univ (outer0 I c))
      ⊢ iprop(((ow c 0 ∗ outPts I c (ownDone c 8) ∗ resPts I c ∗ gamPts I c) ∗ bigSep Finset.univ (outer3 c) -∗ wpc c (kk ⟨⟩) Q)
        -∗ wpc c (outerPart c h >>= kk) Q) := by
  have eA (s : Fin 8) : Rem (oweB c) 0 + Rem (oweA c) s.val = (Rem (oweB c) 0 + Rem (oweA c) (s.val + 1)) + oweK c s 0 := by
    rw [Rem_step, add_assoc]; unfold oweA; simp only [hc]; rfl
  unfold outerPart
  simp only [bind_assoc]
  iintro ⟨#HC, ⟨HO, Hog⟩, HS⟩ Hk
  iapply (wp_loop8 c (ctx I K) (fun n => ow c (Rem (oweB c) 0 + Rem (oweA c) n)) (outer0 I c) (outer1 c) _
      (fun s k => by rw [eA s]; exact outer_step1 I K c hc h s _ k) _) $$ [HO HS]
  · isplitr; · iexact HC
    isplitl [HO]; · iapply (Entails.of_eq (show ow c (O₁ c) = ow c (Rem (oweB c) 0 + Rem (oweA c) 0) from rfl)); iexact HO
    iexact HS
  iintro ⟨HO, HS⟩
  iapply (wp_loop8 c (ctx I K) (fun n => iprop(ow c (Rem (oweB c) n) ∗ outPts I c (ownDone c n) ∗ resPts I c ∗ gamPts I c)) (outer1 c) (outer2 c) _
      (fun s k => outer_step2 I K c hc h s k) _) $$ [HO HS Hog]
  · isplitr; · iexact HC
    isplitl [HO Hog]
    · isplitl [HO]
      · iapply (Entails.of_eq (congrArg (ow c) (show Rem (oweB c) 0 + Rem (oweA c) 8 = Rem (oweB c) 0 by rw [Rem_end, add_zero]))); iexact HO
      iexact Hog
    iexact HS
  iintro ⟨⟨HO, Hog⟩, HS⟩
  ihave HO := (Entails.of_eq (congrArg (ow c) (Rem_end (oweB c)))) $$ HO
  iapply (wp_loop8 c (ctx I K) (fun _ => ow c 0) (outer2 c) (outer3 c) _ (fun s k => outer_step3 I K c hc s k) _) $$ [HO HS]
  · isplitr; · iexact HC
    isplitl [HO] <;> iassumption
  iintro ⟨HO, HS⟩
  iapply Hk
  isplitl [HO Hog]; · isplitl [HO] <;> iassumption
  iexact HS

end Outer

/-! ## An inner device -/

/-- An inner device's resources of one sub-step: before anything, after its pair sum has left, after its normalised
    rows have left, and after the waits for its pair sum's copies. -/
def inner0 (c : Dev nD) (s : Fin 8) : sProp 𝕄 :=
  iprop(hold (rcvCell c s 0) ∗ rowPts myM c s fullShare (myRow I c s) ∗ rowAny poM c s
    ∗ (rowAny piM (peer 1 c) s ∗ rowAny pnM (peer 2 c) s ∗ rowAny pfM (peer 3 c) s) ∗ (tok c s 1 ∗ tok c s 2 ∗ tok c s 3)
    ∗ (at0 (sndCell c s 1) ∗ at0 (sndCell c s 2) ∗ at0 (sndCell c s 3)) ∗ hold (rcvCell c s 1) ∗ layPre c s)
def inner1 (c : Dev nD) (s : Fin 8) : sProp 𝕄 :=
  iprop((fin1 (rcvCell c s 0) ∗ rowAny myM c s ∗ rowAny s1M c s) ∗ rowPts poM c s fullShare.right.right (poRow I c s)
    ∗ (hold (sndCell c s 1) ∗ hold (sndCell c s 2) ∗ hold (sndCell c s 3)) ∗ hold (rcvCell c s 1) ∗ layPre c s)
def inner2 (c : Dev nD) (s : Fin 8) : sProp 𝕄 :=
  iprop((fin1 (rcvCell c s 0) ∗ rowAny myM c s ∗ rowAny s1M c s) ∗ rowPts poM c s fullShare.right.right (poRow I c s)
    ∗ (hold (sndCell c s 1) ∗ hold (sndCell c s 2) ∗ hold (sndCell c s 3)) ∗ fin1 (rcvCell c s 1) ∗ rowAny piM c s ∗ layPost c s)
def inner3 (c : Dev nD) (s : Fin 8) : sProp 𝕄 :=
  iprop((fin1 (rcvCell c s 0) ∗ rowAny myM c s ∗ rowAny s1M c s) ∗ rowAny poM c s
    ∗ (fin1 (sndCell c s 1) ∗ fin1 (sndCell c s 2) ∗ fin1 (sndCell c s 3)) ∗ fin1 (rcvCell c s 1) ∗ rowAny piM c s ∗ layPost c s)

theorem po_split (c : Dev nD) (s : Fin 8) : rowPts poM c s fullShare (poRow I c s)
    ⊢ iprop(rowPts (srcBuf 1) c s (shr 1) (srcVal I c 1 s) ∗ rowPts (srcBuf 2) c s (shr 2) (srcVal I c 2 s) ∗ rowPts (srcBuf 3) c s (shr 3) (srcVal I c 3 s)
      ∗ rowPts poM c s fullShare.right.right (poRow I c s)) := by
  show rowPts poM c s fullShare (poRow I c s) ⊢ iprop(rowPts poM c s fullShare.left.left (poRow I c s) ∗ rowPts poM c s fullShare.left.right (poRow I c s)
      ∗ rowPts poM c s fullShare.right.left (poRow I c s) ∗ rowPts poM c s fullShare.right.right (poRow I c s))
  iintro H
  ihave H := (rowPts_split poM c s fullShare _) $$ H
  icases H with ⟨H1, H2⟩
  ihave H1 := (rowPts_split poM c s fullShare.left _) $$ H1
  icases H1 with ⟨H11, H12⟩
  isplitl [H11]; · iexact H11
  isplitl [H12]; · iexact H12
  iapply (rowPts_split poM c s fullShare.right _); iexact H2
theorem po_join (c : Dev nD) (s : Fin 8) :
    iprop(sndPay I c s 1 ∗ sndPay I c s 2 ∗ sndPay I c s 3 ∗ rowPts poM c s fullShare.right.right (poRow I c s)) ⊢ rowPts poM c s fullShare (poRow I c s) := by
  show iprop(rowPts poM c s fullShare.left.left (poRow I c s) ∗ rowPts poM c s fullShare.left.right (poRow I c s)
      ∗ rowPts poM c s fullShare.right.left (poRow I c s) ∗ rowPts poM c s fullShare.right.right (poRow I c s)) ⊢ rowPts poM c s fullShare (poRow I c s)
  iintro ⟨H1, H2, H3⟩
  iapply (rowPts_join poM c s fullShare _)
  isplitl [H1 H2]
  · iapply (rowPts_join poM c s fullShare.left _); isplitl [H1] <;> iassumption
  iapply (rowPts_join poM c s fullShare.right _); iexact H3

section Inner
variable (c : Dev nD) (hc : inner c = true)
include hc

theorem used_inner (k : Fin 7) (h0 : 0 < k.val) (h3 : k.val ≤ 3) : sendUsed c k = true := by
  unfold sendUsed; rw [if_neg (by omega), if_pos h3, hc]
omit hc in
theorem recv_inner : ∀ c : Dev nD, inner c = true → recvUsed c 0 = true ∧ recvUsed c 1 = true := by decide +kernel

theorem inner_step1 {α : Type} {Q : α → sProp 𝕄} (h : k0_cond2 c = 1#1) (s : Fin 8) (O O' : CellTallies nD τ sig Unit) (hO : Above 2 O')
    (e : O' = O + oweK c s 3 + oweK c s 2 + oweK c s 1) (kk : PUnit → Prog (TpuEff nD τ sig (Elt F) Λ₀ .tc) α) :
    iprop(ctx I K ∗ ow c O' ∗ inner0 I c s)
      ⊢ iprop((ow c O ∗ inner1 I c s -∗ wpc c (kk ⟨⟩) Q)
        -∗ wpc c ((do
            waitRow (rcvSem s 0) s myM s1M (Memref.isWhole_whole _) (Memref.isWhole_whole _)
            let a ← loadRow s myM
            let b ← loadRow s s1M
            let _ ← loadRow s poM
            storeRow s poM (Memref.isWhole_whole _) (k0_pay27 a b)
            sendRow 1 s poM piM (Memref.isWhole_whole _) (Memref.isWhole_whole _) (devMid c h s)
            sendRow 2 s poM pnM (Memref.isWhole_whole _) (Memref.isWhole_whole _) (devNear c h s)
            sendRow 3 s poM pfM (Memref.isWhole_whole _) (Memref.isWhole_whole _) (devFar c h s)) >>= kk) Q) := by
  subst e
  unfold inner0 inner1
  simp only [bind_assoc]
  iintro ⟨#HC, HO, H0, Hm, Hp, ⟨B1, B2, B3⟩, ⟨T1, T2, T3⟩, ⟨A1, A2, A3⟩, H⟩ Hk
  iapply (wp_waitRcv I K c 0 s myM s1M _ _ rfl (recv_inner c hc).1 2 (by rw [lv_rcv]; decide) _ hO _) $$ [H0 HO]
  · isplitr; · iexact HC
    isplitl [H0] <;> iassumption
  iintro ⟨P0, F0, HO⟩
  ihave P0 := (Entails.of_eq (show rcvPay I c s 0 = rowPts s1M c s fullShare (myRow I (peer 0 c) s) from rfl)) $$ P0
  iapply (wp_loadRow c s myM fullShare _ _) $$ Hm
  iintro Hm
  iapply (wp_loadRow c s s1M fullShare _ _) $$ P0
  iintro P0
  iapply (wp_loadRow_any c s poM _) $$ Hp
  iintro %v Hp
  iapply (wp_storeRow c s poM _ (poRow I c s) _) $$ Hp
  iintro Hp
  ihave Hp := (po_split I c s) $$ Hp
  icases Hp with ⟨S1, S2, S3, S4⟩
  iapply (wp_sendRow I K c 1 s poM piM _ _ rfl rfl (used_inner c hc 1 (by decide) (by decide)) _ (devMid_eq c h s) _ _) $$ [S1 B1 HO T1]
  · isplitr; · iexact HC
    isplitl [S1]; · iexact S1
    isplitl [B1]; · iexact B1
    isplitl [HO]; · iexact HO
    iexact T1
  iintro ⟨C1, HO⟩
  iapply (wp_sendRow I K c 2 s poM pnM _ _ rfl rfl (used_inner c hc 2 (by decide) (by decide)) _ (devNear_eq c h s) _ _) $$ [S2 B2 HO T2]
  · isplitr; · iexact HC
    isplitl [S2]; · iexact S2
    isplitl [B2]; · iexact B2
    isplitl [HO]; · iexact HO
    iexact T2
  iintro ⟨C2, HO⟩
  iapply (wp_sendRow I K c 3 s poM pfM _ _ rfl rfl (used_inner c hc 3 (by decide) (by decide)) _ (devFar_eq c h s) _ _) $$ [S3 B3 HO T3]
  · isplitr; · iexact HC
    isplitl [S3]; · iexact S3
    isplitl [B3]; · iexact B3
    isplitl [HO]; · iexact HO
    iexact T3
  iintro ⟨C3, HO⟩
  iapply Hk
  unfold hold
  isplitl [HO]; · iexact HO
  isplitl [F0 Hm P0]
  · isplitl [F0]; · iexact F0
    isplitl [Hm]; · iapply (rowPts_any myM c s _); iexact Hm
    iapply (rowPts_any s1M c s _); iexact P0
  isplitl [S4]; · iexact S4
  isplitl [C1 C2 C3 A1 A2 A3]
  · isplitl [C1 A1]; · isplitl [C1] <;> iassumption
    isplitl [C2 A2]; · isplitl [C2] <;> iassumption
    isplitl [C3] <;> iassumption
  iexact H

theorem inner_step2 {α : Type} {Q : α → sProp 𝕄} (h : k0_cond2 c = 1#1) (s : Fin 8) (kk : PUnit → Prog (TpuEff nD τ sig (Elt F) Λ₀ .tc) α) :
    iprop(ctx I K ∗ (ow c (Rem (oweB c) s.val) ∗ outPts I c (ownDone c s.val) ∗ resPts I c ∗ gamPts I c) ∗ inner1 I c s)
      ⊢ iprop(((ow c (Rem (oweB c) (s.val + 1)) ∗ outPts I c (ownDone c (s.val + 1)) ∗ resPts I c ∗ gamPts I c) ∗ inner2 I c s -∗ wpc c (kk ⟨⟩) Q)
        -∗ wpc c ((do
            waitRow (rcvSem s 1) s poM piM (Memref.isWhole_whole _) (Memref.isWhole_whole _)
            let a ← loadRow s poM
            let b ← loadRow s piM
            lnScatter s (k0_off3 c (BitVec.ofNat 32 (32 * s.val))) (k0_off3_inb c h s) (devIX c h s) (devIY c h s) (devID c h s) (k0_pay1 a b)) >>= kk) Q) := by
  unfold inner1 inner2
  simp only [bind_assoc]
  iintro ⟨#HC, ⟨HO, Hog⟩, H0, Hp, H123, H1, Hl⟩ Hk
  iapply (wp_waitRcv I K c 1 s poM piM _ _ rfl (recv_inner c hc).2 3 (by rw [lv_rcv]; decide) _ (above_oweB c s.val) _) $$ [H1 HO]
  · isplitr; · iexact HC
    isplitl [H1] <;> iassumption
  iintro ⟨P1, F1, HO⟩
  ihave P1 := (Entails.of_eq (show rcvPay I c s 1 = rowPts piM c s fullShare (poRow I (peer 1 c) s) from rfl)) $$ P1
  iapply (wp_loadRow c s poM fullShare.right.right _ _) $$ Hp
  iintro Hp
  iapply (wp_loadRow c s piM fullShare _ _) $$ P1
  iintro P1
  iapply (wp_lnScatter I K c s _ _ (off3_eq c s) _ _ _ (devIX_eq c h s) (devIY_eq c h s) (devID_eq c h s) _ (by unfold tRow; rw [if_pos hc])
      (ownDone c s.val) (ownDone c (s.val + 1)) (ownDone_step c s) (Rem (oweB c) (s.val + 1)) _) $$ [HO Hog Hl]
  · isplitr; · iexact HC
    isplitl [Hog]; · iexact Hog
    isplitl [Hl]; · iexact Hl
    iapply (Entails.of_eq (congrArg (ow c) (Rem_step (oweB c) s))); iexact HO
  iintro ⟨Hog, Hl, HO⟩
  iapply Hk
  isplitl [HO Hog]; · isplitl [HO] <;> iassumption
  isplitl [H0]; · iexact H0
  isplitl [Hp]; · iexact Hp
  isplitl [H123]; · iexact H123
  isplitl [F1]; · iexact F1
  isplitl [P1]; · iapply (rowPts_any piM c s _); iexact P1
  iexact Hl

theorem inner_step3 {α : Type} {Q : α → sProp 𝕄} (s : Fin 8) (kk : PUnit → Prog (TpuEff nD τ sig (Elt F) Λ₀ .tc) α) :
    iprop(ctx I K ∗ ow c 0 ∗ inner2 I c s)
      ⊢ iprop((ow c 0 ∗ inner3 c s -∗ wpc c (kk ⟨⟩) Q)
        -∗ wpc c ((do
            waitRow (sndSem s 1) s piM poM (Memref.isWhole_whole _) (Memref.isWhole_whole _)
            waitRow (sndSem s 2) s pnM poM (Memref.isWhole_whole _) (Memref.isWhole_whole _)
            waitRow (sndSem s 3) s pfM poM (Memref.isWhole_whole _) (Memref.isWhole_whole _)) >>= kk) Q) := by
  unfold inner2 inner3
  simp only [bind_assoc]
  iintro ⟨#HC, HO, H0, Hp, ⟨H1, H2, H3⟩, H⟩ Hk
  iapply (wp_waitSnd I K c 1 s piM poM _ _ rfl (used_inner c hc 1 (by decide) (by decide)) _) $$ [H1 HO]
  · isplitr; · iexact HC
    isplitl [H1] <;> iassumption
  iintro ⟨P1, F1, HO⟩
  iapply (wp_waitSnd I K c 2 s pnM poM _ _ rfl (used_inner c hc 2 (by decide) (by decide)) _) $$ [H2 HO]
  · isplitr; · iexact HC
    isplitl [H2] <;> iassumption
  iintro ⟨P2, F2, HO⟩
  iapply (wp_waitSnd I K c 3 s pfM poM _ _ rfl (used_inner c hc 3 (by decide) (by decide)) _) $$ [H3 HO]
  · isplitr; · iexact HC
    isplitl [H3] <;> iassumption
  iintro ⟨P3, F3, HO⟩
  iapply Hk
  isplitl [HO]; · iexact HO
  isplitl [H0]; · iexact H0
  isplitl [P1 P2 P3 Hp]
  · iapply (rowPts_any poM c s (poRow I c s))
    iapply (po_join I c s)
    isplitl [P1]; · iexact P1
    isplitl [P2]; · iexact P2
    isplitl [P3] <;> iassumption
  isplitl [F1 F2 F3]
  · isplitl [F1]; · iexact F1
    isplitl [F2] <;> iassumption
  iexact H

theorem wp_inner {α : Type} {Q : α → sProp 𝕄} (h : k0_cond2 c = 1#1) (kk : PUnit → Prog (TpuEff nD τ sig (Elt F) Λ₀ .tc) α) :
    iprop(ctx I K ∗ (ow c (O₁ c) ∗ outPts I c (ownDone c 0) ∗ resPts I c ∗ gamPts I c) ∗ bigSep Finset.univ (inner0 I c))
      ⊢ iprop(((ow c 0 ∗ outPts I c (ownDone c 8) ∗ resPts I c ∗ gamPts I c) ∗ bigSep Finset.univ (inner3 c) -∗ wpc c (kk ⟨⟩) Q)
        -∗ wpc c (innerPart c h >>= kk) Q) := by
  have eA (s : Fin 8) : Rem (oweB c) 0 + Rem (oweA c) s.val = (Rem (oweB c) 0 + Rem (oweA c) (s.val + 1)) + oweK c s 3 + oweK c s 2 + oweK c s 1 := by
    rw [Rem_step]; unfold oweA; simp only [hc, if_true, add_assoc]
  unfold innerPart
  simp only [bind_assoc]
  iintro ⟨#HC, ⟨HO, Hog⟩, HS⟩ Hk
  iapply (wp_loop8 c (ctx I K) (fun n => ow c (Rem (oweB c) 0 + Rem (oweA c) n)) (inner0 I c) (inner1 I c) _
      (fun s k => by
        have := inner_step1 (Q := Q) I K c hc h s (Rem (oweB c) 0 + Rem (oweA c) (s.val + 1)) _ (((above_oweB c 0).mono (by decide)).add (above_oweA_inner c hc s.val)) (eA s) k
        simp only [bind_assoc] at this ⊢
        exact this) _) $$ [HO HS]
  · isplitr; · iexact HC
    isplitl [HO]; · iapply (Entails.of_eq (show ow c (O₁ c) = ow c (Rem (oweB c) 0 + Rem (oweA c) 0) from rfl)); iexact HO
    iexact HS
  iintro ⟨HO, HS⟩
  iapply (wp_loop8 c (ctx I K) (fun n => iprop(ow c (Rem (oweB c) n) ∗ outPts I c (ownDone c n) ∗ resPts I c ∗ gamPts I c)) (inner1 I c) (inner2 I c) _
      (fun s k => inner_step2 I K c hc h s k) _) $$ [HO HS Hog]
  · isplitr; · iexact HC
    isplitl [HO Hog]
    · isplitl [HO]
      · iapply (Entails.of_eq (congrArg (ow c) (show Rem (oweB c) 0 + Rem (oweA c) 8 = Rem (oweB c) 0 by rw [Rem_end, add_zero]))); iexact HO
      iexact Hog
    iexact HS
  iintro ⟨⟨HO, Hog⟩, HS⟩
  ihave HO := (Entails.of_eq (congrArg (ow c) (Rem_end (oweB c)))) $$ HO
  iapply (wp_loop8 c (ctx I K) (fun _ => ow c 0) (inner2 I c) (inner3 c) _ (fun s k => inner_step3 I K c hc s k) _) $$ [HO HS]
  · isplitr; · iexact HC
    isplitl [HO] <;> iassumption
  iintro ⟨HO, HS⟩
  iapply Hk
  isplitl [HO Hog]; · isplitl [HO] <;> iassumption
  iexact HS

end Inner

/-! ## The exchange of quarters -/

/-- A device's resources of one sub-step of the exchange: before, after its blocks are taken, and at the end. -/
def tail0 (c : Dev nD) (s : Fin 8) : sProp 𝕄 :=
  iprop((hold (rcvCell c s 4) ∗ hold (rcvCell c s 5) ∗ hold (rcvCell c s 6)) ∗ hold (sndCell c s 4) ∗ hold (sndCell c s 5) ∗ hold (sndCell c s 6))
def tail1 (c : Dev nD) (s : Fin 8) : sProp 𝕄 :=
  iprop(((fin1 (rcvCell c s 4) ∗ rowAny qxM c s) ∗ (fin1 (rcvCell c s 5) ∗ rowAny qyM c s) ∗ (fin1 (rcvCell c s 6) ∗ rowAny qdM c s))
    ∗ hold (sndCell c s 4) ∗ hold (sndCell c s 5) ∗ hold (sndCell c s 6))
def tail2 (c : Dev nD) (s : Fin 8) : sProp 𝕄 :=
  iprop(((fin1 (rcvCell c s 4) ∗ rowAny qxM c s) ∗ (fin1 (rcvCell c s 5) ∗ rowAny qyM c s) ∗ (fin1 (rcvCell c s 6) ∗ rowAny qdM c s))
    ∗ rowAny lnM c s ∗ fin1 (sndCell c s 4) ∗ fin1 (sndCell c s 5) ∗ fin1 (sndCell c s 6))

/-- Taking one received block: the result's block it stores is done. -/
theorem wp_takeRow {α : Type} {Q : α → sProp 𝕄} (c : Dev nD) (s : Fin 8) (k : Fin 7) (hk : 4 ≤ k.val) (B : Buf8) (hB : B.IsWhole) (eB : B = dstBuf k)
    (off : Fin 2 → Nat) (h : ∀ a, off a + S32x1024.size a ≤ S1024x1024.size a) (ho : off = blkOff (qOf (peer k c)) s)
    (D D' : Fin 4 → Fin 8 → Prop) (hD : ∀ q' s', D' q' s' → D q' s' ∨ (q' = qOf (peer k c) ∧ s' = s)) (kk : PUnit → Prog (TpuEff nD τ sig (Elt F) Λ₀ .tc) α) :
    iprop(ctx I K ∗ (ow c 0 ∗ outPts I c D) ∗ hold (rcvCell c s k))
      ⊢ iprop(((ow c 0 ∗ outPts I c D') ∗ fin1 (rcvCell c s k) ∗ rowAny B c s -∗ wpc c (kk ⟨⟩) Q) -∗ wpc c (takeRow s k B hB off h >>= kk) Q) := by
  have ev : k0_pay61 (srcVal I (peer k c) k s) = outv I c (qOf (peer k c)) s := by
    unfold outv srcVal
    rw [if_neg (by omega), if_neg (by omega), if_neg (peer_quarter_ne c k hk), peer_is_holder c k hk]
  subst eB
  unfold takeRow
  simp only [bind_assoc]
  iintro ⟨#HC, ⟨HO, Ho⟩, H⟩ Hk
  iapply (wp_waitRcv I K c k s lnM (dstBuf k) _ _ rfl (recv_layer c k hk) 4 (by rw [lv_rcv, if_neg (by omega), if_neg (by omega)]) 0 (Above.zero 4) _) $$ [H HO]
  · isplitr; · iexact HC
    isplitl [H] <;> iassumption
  iintro ⟨P, Ff, HO⟩
  unfold rcvPay
  iapply (wp_loadRow c s (dstBuf k) fullShare _ _) $$ P
  iintro P
  iapply (wp_loadOut I c D off h _) $$ Ho
  iintro %v Ho
  iapply (wp_storeOut I c D D' (qOf (peer k c)) s hD off h ho _ ev _) $$ Ho
  iintro Ho
  iapply Hk
  isplitl [HO Ho]; · isplitl [HO] <;> iassumption
  isplitl [Ff]; · iexact Ff
  iapply (rowPts_any (dstBuf k) c s _); iexact P

/-- The blocks of the result stored before sub-step `n` of the exchange. -/
def tailDone (c : Dev nD) (n : ℕ) (q : Fin 4) (s : Fin 8) : Prop := q = qOf c ∨ s.val < n

theorem tailDone_step (c : Dev nD) (s : Fin 8) (q' : Fin 4) (s' : Fin 8) (h : tailDone c (s.val + 1) q' s') :
    ((tailDone c s.val q' s' ∨ (q' = qOf (peer 4 c) ∧ s' = s)) ∨ (q' = qOf (peer 5 c) ∧ s' = s)) ∨ (q' = qOf (peer 6 c) ∧ s' = s) := by
  unfold tailDone at *
  rcases h with h | h
  · exact Or.inl (Or.inl (Or.inl (Or.inl h)))
  rcases Nat.lt_succ_iff_lt_or_eq.mp h with h | h
  · exact Or.inl (Or.inl (Or.inl (Or.inr h)))
  have hs : s' = s := Fin.ext h
  rcases quarter_cases c q' with e | e | e | e
  · exact Or.inl (Or.inl (Or.inl (Or.inl e)))
  · exact Or.inl (Or.inl (Or.inr ⟨e, hs⟩))
  · exact Or.inl (Or.inr ⟨e, hs⟩)
  · exact Or.inr ⟨e, hs⟩

theorem tail_step1 {α : Type} {Q : α → sProp 𝕄} (c : Dev nD) (s : Fin 8) (kk : PUnit → Prog (TpuEff nD τ sig (Elt F) Λ₀ .tc) α) :
    iprop(ctx I K ∗ (ow c 0 ∗ outPts I c (tailDone c s.val)) ∗ tail0 c s)
      ⊢ iprop(((ow c 0 ∗ outPts I c (tailDone c (s.val + 1))) ∗ tail1 c s -∗ wpc c (kk ⟨⟩) Q)
        -∗ wpc c ((do
            takeRow s 4 qxM (Memref.isWhole_whole _) (k0_off4 c (BitVec.ofNat 32 (32 * s.val))) (k0_off4_inb c s)
            takeRow s 5 qyM (Memref.isWhole_whole _) (k0_off5 c (BitVec.ofNat 32 (32 * s.val))) (k0_off5_inb c s)
            takeRow s 6 qdM (Memref.isWhole_whole _) (k0_off6 c (BitVec.ofNat 32 (32 * s.val))) (k0_off6_inb c s)) >>= kk) Q) := by
  unfold tail0 tail1
  simp only [bind_assoc]
  iintro ⟨#HC, HR, ⟨H4, H5, H6⟩, H⟩ Hk
  iapply (wp_takeRow I K c s 4 (by decide) qxM _ rfl _ _ (off4_eq c s) (tailDone c s.val)
      (fun q' s' => tailDone c s.val q' s' ∨ (q' = qOf (peer 4 c) ∧ s' = s)) (fun _ _ h => h) _) $$ [HR H4]
  · isplitr; · iexact HC
    isplitl [HR] <;> iassumption
  iintro ⟨HR, H4⟩
  iapply (wp_takeRow I K c s 5 (by decide) qyM _ rfl _ _ (off5_eq c s) _
      (fun q' s' => (tailDone c s.val q' s' ∨ (q' = qOf (peer 4 c) ∧ s' = s)) ∨ (q' = qOf (peer 5 c) ∧ s' = s)) (fun _ _ h => h) _) $$ [HR H5]
  · isplitr; · iexact HC
    isplitl [HR] <;> iassumption
  iintro ⟨HR, H5⟩
  iapply (wp_takeRow I K c s 6 (by decide) qdM _ rfl _ _ (off6_eq c s) _
      (tailDone c (s.val + 1)) (tailDone_step c s) _) $$ [HR H6]
  · isplitr; · iexact HC
    isplitl [HR] <;> iassumption
  iintro ⟨HR, H6⟩
  iapply Hk
  isplitl [HR]; · iexact HR
  isplitl [H4 H5 H6]
  · isplitl [H4]; · iexact H4
    isplitl [H5] <;> iassumption
  iexact H

theorem tail_step2 {α : Type} {Q : α → sProp 𝕄} (c : Dev nD) (s : Fin 8) (kk : PUnit → Prog (TpuEff nD τ sig (Elt F) Λ₀ .tc) α) :
    iprop(ctx I K ∗ ow c 0 ∗ tail1 c s)
      ⊢ iprop((ow c 0 ∗ tail2 c s -∗ wpc c (kk ⟨⟩) Q) -∗ wpc c (tailWait s >>= kk) Q) := by
  unfold tail1 tail2 tailWait
  simp only [bind_assoc]
  iintro ⟨#HC, HO, H, H4, H5, H6⟩ Hk
  iapply (wp_waitSnd I K c 4 s qxM lnM _ _ rfl (used_layer c 4 (by decide)) _) $$ [H4 HO]
  · isplitr; · iexact HC
    isplitl [H4] <;> iassumption
  iintro ⟨P4, F4, HO⟩
  iapply (wp_waitSnd I K c 5 s qyM lnM _ _ rfl (used_layer c 5 (by decide)) _) $$ [H5 HO]
  · isplitr; · iexact HC
    isplitl [H5] <;> iassumption
  iintro ⟨P5, F5, HO⟩
  iapply (wp_waitSnd I K c 6 s qdM lnM _ _ rfl (used_layer c 6 (by decide)) _) $$ [H6 HO]
  · isplitr; · iexact HC
    isplitl [H6] <;> iassumption
  iintro ⟨P6, F6, HO⟩
  iapply Hk
  isplitl [HO]; · iexact HO
  isplitl [H]; · iexact H
  isplitl [P4 P5 P6]
  · iapply (rowPts_any lnM c s (lnRow I c s))
    iapply (lnRow_full_join I c s)
    isplitl [P4]; · iexact P4
    isplitl [P5] <;> iassumption
  isplitl [F4]; · iexact F4
  isplitl [F5] <;> iassumption

theorem outPts_weaken (c : Dev nD) (D D' : Fin 4 → Fin 8 → Prop) (h : ∀ q s, D' q s → D q s) : outPts I c D ⊢ outPts I c D' := by
  unfold outPts
  iintro ⟨%f, H, %hf⟩
  iexists f
  isplitl; · iexact H
  ipureintro; exact fun q s hq => hf q s (h q s hq)

theorem wpc_pure {α : Type} (c : Dev nD) (a : α) (Q : α → sProp 𝕄) : Q a ⊢ wpc c (pure a) Q := by
  rw [Prog.pure_eq_ret]; unfold wpc; rw [wp_ret]
  iintro H; imodintro; iexact H

theorem wp_tail (c : Dev nD) :
    iprop(ctx I K ∗ (ow c 0 ∗ outPts I c (ownDone c 8)) ∗ bigSep Finset.univ (tail0 c))
      ⊢ wpc c (do tailTake c; loop8 tailWait) (fun _ => iprop((ow c 0 ∗ outPts I c (fun _ _ => True)) ∗ bigSep Finset.univ (tail2 c))) := by
  unfold tailTake
  iintro ⟨#HC, ⟨HO, Ho⟩, HS⟩
  iapply (wp_loop8 c (ctx I K) (fun n => iprop(ow c 0 ∗ outPts I c (tailDone c n))) (tail0 c) (tail1 c) _
      (fun s k => tail_step1 I K c s k) _) $$ [HO Ho HS]
  · isplitr; · iexact HC
    isplitl [HO Ho]
    · isplitl [HO]; · iexact HO
      iapply (outPts_weaken I c (ownDone c 8) (tailDone c 0) (fun q s h => ⟨h.resolve_right (Nat.not_lt_zero _), s.isLt⟩)); iexact Ho
    iexact HS
  iintro ⟨⟨HO, Ho⟩, HS⟩
  rw [← bind_pure (loop8 tailWait)]
  iapply (wp_loop8 c (ctx I K) (fun _ => ow c 0) (tail1 c) (tail2 c) _ (fun s k => tail_step2 I K c s k) _) $$ [HO HS]
  · isplitr; · iexact HC
    isplitl [HO] <;> iassumption
  iintro ⟨HO, HS⟩
  iapply (wpc_pure c PUnit.unit _)
  isplitl [HO Ho]
  · isplitl [HO]; · iexact HO
    iapply (outPts_weaken I c (tailDone c 8) (fun _ _ => True) (fun q s _ => .inr s.isLt)); iexact Ho
  iexact HS

end Cert.KernelIdeal.Own

end
-- ==== Proof.Whole.lean ====
/-
One device's whole run: from its cells, its buffers and its debt to the result's buffer holding every block, every
cell of its own past its last round and its buffers its own again.
-/
module

public import proofs.«01_k».proof.Proof.Body

@[expose] public section

set_option maxRecDepth 4000

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Args F) (K : Dev nD × CI → ℕ)

/-! ## The handshake's buffers -/

/-- What device `c`'s own `j`-th signal hands over: its buffer the receiver of the signal copies into. -/
def give (c : Dev nD) (j : Fin 6) : sProp 𝕄 :=
  match j with
  | 0 => if inner c then bufAny s1M c else bufAny pnM c
  | 1 => if inner c then bufAny piM c else iprop(emp)
  | 2 => if inner c then iprop(emp) else bufAny pfM c
  | 3 => bufAny qxM c
  | 4 => bufAny qyM c
  | 5 => bufAny qdM c

theorem inner_jp : ∀ c : Dev nD, inner (jp 0 c) = !inner c ∧ inner (jp 1 c) = inner c ∧ inner (jp 2 c) = !inner c := by decide +kernel
theorem barPay_give (c : Dev nD) (j : Fin 6) : (barPay (jp j c) j : sProp 𝕄) = give c j := by
  obtain ⟨h0, h1, h2⟩ := inner_jp c
  fin_cases j
  · show (if inner (jp 0 c) then bufAny pnM (jp 0 (jp 0 c)) else bufAny s1M (jp 0 (jp 0 c)) : sProp 𝕄) = if inner c then _ else _
    rw [h0, jp_jp]; cases inner c <;> rfl
  · show (if inner (jp 1 c) then bufAny piM (jp 1 (jp 1 c)) else iprop(emp) : sProp 𝕄) = if inner c then _ else _
    rw [h1, jp_jp]
  · show (if inner (jp 2 c) then bufAny pfM (jp 2 (jp 2 c)) else iprop(emp) : sProp 𝕄) = if inner c then _ else _
    rw [h2, jp_jp]; cases inner c <;> rfl
  · show (bufAny qxM (jp 3 (jp 3 c)) : sProp 𝕄) = _; rw [jp_jp]; rfl
  · show (bufAny qyM (jp 4 (jp 4 c)) : sProp 𝕄) = _; rw [jp_jp]; rfl
  · show (bufAny qdM (jp 5 (jp 5 c)) : sProp 𝕄) = _; rw [jp_jp]; rfl

theorem jp_peer : ∀ c : Dev nD, jp 0 c = peer 0 c ∧ jp 0 c = peer 2 c ∧ jp 1 c = peer 1 c ∧ jp 2 c = peer 3 c ∧ jp 3 c = peer 4 c ∧ jp 4 c = peer 5 c ∧ jp 5 c = peer 6 c := by
  decide +kernel

theorem bigSep_fin6 (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]; rfl
theorem bigSep_fin7 (Φ : Fin 7 → sProp 𝕄) : bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide)]; rfl

/-- What the signals of the six devices hand an outer device, -/
theorem got_outer (c : Dev nD) (hc : inner c = false) : (bigSep Finset.univ fun j : Fin 6 => (barPay c j : sProp 𝕄))
    ⊢ iprop(bufAny s1M (peer 0 c) ∗ bufAny qxM (peer 4 c) ∗ bufAny qyM (peer 5 c) ∗ bufAny qdM (peer 6 c)) := by
  obtain ⟨e0, e0', e1, e2, e3, e4, e5⟩ := jp_peer c
  rw [bigSep_fin6]
  simp only [barPay, hc, Bool.false_eq_true, if_true, if_false, e3, e4, e5]
  rw [e0]
  iintro ⟨H0, -, -, H3, H4, H5⟩
  iframe
/-- and an inner one. -/
theorem got_inner (c : Dev nD) (hc : inner c = true) : (bigSep Finset.univ fun j : Fin 6 => (barPay c j : sProp 𝕄))
    ⊢ iprop(bufAny piM (peer 1 c) ∗ bufAny pnM (peer 2 c) ∗ bufAny pfM (peer 3 c) ∗ bufAny qxM (peer 4 c) ∗ bufAny qyM (peer 5 c) ∗ bufAny qdM (peer 6 c)) := by
  obtain ⟨e0, e0', e1, e2, e3, e4, e5⟩ := jp_peer c
  rw [bigSep_fin6]
  simp only [barPay, hc, Bool.false_eq_true, if_true, if_false, e1, e2, e3, e4, e5]
  rw [e0']
  iintro ⟨H0, H1, H2, H3, H4, H5⟩
  iframe

/-! ## A device's cells -/

/-- A copy's two cells of a device before the run: the positions, the credit of a copy that comes, and the tokens of
    the copy the device may start. -/
def cellPre (c : Dev nD) (s : Fin 8) (k : Fin 7) : sProp 𝕄 :=
  iprop(at0 (sndCell c s k) ∗ at0 (rcvCell c s k) ∗ cred (tallyAt (rcvCell c s k) () (if recvUsed c k then N else 0)) ∗ tok c s k)
/-- The same cells after the run: past the round of a copy that was made, untouched otherwise. -/
def cellPost (c : Dev nD) (s : Fin 8) (k : Fin 7) : sProp 𝕄 :=
  iprop(atPos ER (sndCell c s k) (if sendUsed c k then 1 else 0) ∅ 0 ∗ atPos ER (rcvCell c s k) (if recvUsed c k then 1 else 0) ∅ 0)
def cellsPre (c : Dev nD) (s : Fin 8) : sProp 𝕄 := bigSep Finset.univ fun k : Fin 7 => cellPre c s k
def cellsPost (c : Dev nD) (s : Fin 8) : sProp 𝕄 := bigSep Finset.univ fun k : Fin 7 => cellPost c s k

/-- The row blocks of a device's own buffers. -/
def rowsOwn (c : Dev nD) (s : Fin 8) : sProp 𝕄 :=
  iprop(rowAny myM c s ∗ rowAny s1M c s ∗ rowAny poM c s ∗ rowAny piM c s ∗ rowAny pnM c s ∗ rowAny pfM c s ∗ rowAny lnM c s ∗ rowAny qxM c s ∗ rowAny qyM c s ∗ rowAny qdM c s)

theorem table_outer : ∀ c : Dev nD, inner c = false → ∀ k : Fin 7,
    sendUsed c k = (![true, false, false, false, true, true, true] : Fin 7 → Bool) k ∧ recvUsed c k = (![false, false, true, true, true, true, true] : Fin 7 → Bool) k := by decide +kernel
theorem table_inner : ∀ c : Dev nD, inner c = true → ∀ k : Fin 7,
    sendUsed c k = (![false, true, true, true, true, true, true] : Fin 7 → Bool) k ∧ recvUsed c k = (![true, true, false, false, true, true, true] : Fin 7 → Bool) k := by decide +kernel

/-! ## A sub-step of an outer device -/

def outerKeep (c : Dev nD) (s : Fin 8) : sProp 𝕄 :=
  iprop((at0 (sndCell c s 1) ∗ at0 (sndCell c s 2) ∗ at0 (sndCell c s 3) ∗ at0 (rcvCell c s 0) ∗ at0 (rcvCell c s 1))
    ∗ (hold (rcvCell c s 4) ∗ hold (rcvCell c s 5) ∗ hold (rcvCell c s 6)) ∗ (at0 (sndCell c s 4) ∗ at0 (sndCell c s 5) ∗ at0 (sndCell c s 6))
    ∗ rowAny s1M c s ∗ rowAny poM c s ∗ rowAny piM c s)
def outerFin (c : Dev nD) (s : Fin 8) : sProp 𝕄 :=
  iprop((at0 (sndCell c s 1) ∗ at0 (sndCell c s 2) ∗ at0 (sndCell c s 3) ∗ at0 (rcvCell c s 0) ∗ at0 (rcvCell c s 1))
    ∗ (fin1 (sndCell c s 0) ∗ fin1 (rcvCell c s 2) ∗ fin1 (rcvCell c s 3))
    ∗ rowAny myM c s ∗ rowAny s1M c s ∗ rowAny poM c s ∗ rowAny piM c s ∗ rowAny pnM c s ∗ rowAny pfM c s)

theorem outer_start (c : Dev nD) (hc : inner c = false) (s : Fin 8) :
    iprop(cellsPre c s ∗ rowPts myM c s fullShare (myRow I c s) ∗ (rowAny s1M (peer 0 c) s ∗ rowAny qxM (peer 4 c) s ∗ rowAny qyM (peer 5 c) s ∗ rowAny qdM (peer 6 c) s)
        ∗ rowAny s1M c s ∗ rowAny poM c s ∗ rowAny piM c s ∗ rowAny lnM c s)
      ⊢ iprop(outer0 I c s ∗ outerKeep c s) := by
  have h := table_outer c hc
  unfold cellsPre outer0 outerKeep layPre hold
  rw [bigSep_fin7]
  simp only [cellPre, fun k => (h k).2, Matrix.cons_val, Bool.false_eq_true, if_true, if_false]
  iintro ⟨⟨⟨S0, R0, C0, T0⟩, ⟨S1, R1, C1, T1⟩, ⟨S2, R2, C2, T2⟩, ⟨S3, R3, C3, T3⟩, ⟨S4, R4, C4, T4⟩, ⟨S5, R5, C5, T5⟩, S6, R6, C6, T6⟩, Hm, ⟨P0, P4, P5, P6⟩, A1, A2, A3, A4⟩
  iframe
theorem outer_mid (c : Dev nD) (s : Fin 8) : iprop(outer3 c s ∗ outerKeep c s) ⊢ (iprop(tail0 c s ∗ outerFin c s) : sProp 𝕄) := by
  unfold outer3 outerKeep tail0 outerFin layPost hold
  iintro ⟨⟨F0, Hm, F2, F3, Hn, Hf, C4, C5, C6⟩, ⟨A1, A2, A3, A4, A5⟩, ⟨⟨D4, R4⟩, ⟨D5, R5⟩, D6, R6⟩, ⟨S4, S5, S6⟩, B1, B2, B3⟩
  iframe
theorem outer_end (c : Dev nD) (hc : inner c = false) (s : Fin 8) : iprop(tail2 c s ∗ outerFin c s) ⊢ (iprop(cellsPost c s ∗ rowsOwn c s) : sProp 𝕄) := by
  have h := table_outer c hc
  unfold tail2 outerFin cellsPost rowsOwn fin1
  rw [bigSep_fin7]
  simp only [cellPost, fun k => (h k).1, fun k => (h k).2, Matrix.cons_val, Bool.false_eq_true, if_true, if_false]
  iintro ⟨⟨⟨⟨R4, Q4⟩, ⟨R5, Q5⟩, R6, Q6⟩, Hl, S4, S5, S6⟩, ⟨A1, A2, A3, A4, A5⟩, ⟨F0, F2, F3⟩, B0, B1, B2, B3, B4, B5⟩
  iframe

/-! ## A sub-step of an inner device -/

def innerKeep (c : Dev nD) (s : Fin 8) : sProp 𝕄 :=
  iprop((at0 (sndCell c s 0) ∗ at0 (rcvCell c s 2) ∗ at0 (rcvCell c s 3))
    ∗ (hold (rcvCell c s 4) ∗ hold (rcvCell c s 5) ∗ hold (rcvCell c s 6)) ∗ (at0 (sndCell c s 4) ∗ at0 (sndCell c s 5) ∗ at0 (sndCell c s 6))
    ∗ rowAny pnM c s ∗ rowAny pfM c s)
def innerFin (c : Dev nD) (s : Fin 8) : sProp 𝕄 :=
  iprop((at0 (sndCell c s 0) ∗ at0 (rcvCell c s 2) ∗ at0 (rcvCell c s 3))
    ∗ (fin1 (rcvCell c s 0) ∗ fin1 (rcvCell c s 1) ∗ fin1 (sndCell c s 1) ∗ fin1 (sndCell c s 2) ∗ fin1 (sndCell c s 3))
    ∗ rowAny myM c s ∗ rowAny s1M c s ∗ rowAny poM c s ∗ rowAny piM c s ∗ rowAny pnM c s ∗ rowAny pfM c s)

theorem inner_start (c : Dev nD) (hc : inner c = true) (s : Fin 8) :
    iprop(cellsPre c s ∗ rowPts myM c s fullShare (myRow I c s)
        ∗ (rowAny piM (peer 1 c) s ∗ rowAny pnM (peer 2 c) s ∗ rowAny pfM (peer 3 c) s ∗ rowAny qxM (peer 4 c) s ∗ rowAny qyM (peer 5 c) s ∗ rowAny qdM (peer 6 c) s)
        ∗ rowAny poM c s ∗ rowAny pnM c s ∗ rowAny pfM c s ∗ rowAny lnM c s)
      ⊢ iprop(inner0 I c s ∗ innerKeep c s) := by
  have h := table_inner c hc
  unfold cellsPre inner0 innerKeep layPre hold
  rw [bigSep_fin7]
  simp only [cellPre, fun k => (h k).2, Matrix.cons_val, Bool.false_eq_true, if_true, if_false]
  iintro ⟨⟨⟨S0, R0, C0, T0⟩, ⟨S1, R1, C1, T1⟩, ⟨S2, R2, C2, T2⟩, ⟨S3, R3, C3, T3⟩, ⟨S4, R4, C4, T4⟩, ⟨S5, R5, C5, T5⟩, S6, R6, C6, T6⟩, Hm, ⟨P1, P2, P3, P4, P5, P6⟩, A1, A2, A3, A4⟩
  iframe
theorem inner_mid (c : Dev nD) (s : Fin 8) : iprop(inner3 c s ∗ innerKeep c s) ⊢ (iprop(tail0 c s ∗ innerFin c s) : sProp 𝕄) := by
  unfold inner3 innerKeep tail0 innerFin layPost hold
  iintro ⟨⟨⟨F0, Hm, H1⟩, Hp, ⟨F1, F2, F3⟩, F4, Hi, C4, C5, C6⟩, ⟨A1, A2, A3⟩, ⟨⟨D4, R4⟩, ⟨D5, R5⟩, D6, R6⟩, ⟨S4, S5, S6⟩, B1, B2⟩
  iframe
theorem inner_end (c : Dev nD) (hc : inner c = true) (s : Fin 8) : iprop(tail2 c s ∗ innerFin c s) ⊢ (iprop(cellsPost c s ∗ rowsOwn c s) : sProp 𝕄) := by
  have h := table_inner c hc
  unfold tail2 innerFin cellsPost rowsOwn fin1
  rw [bigSep_fin7]
  simp only [cellPost, fun k => (h k).1, fun k => (h k).2, Matrix.cons_val, Bool.false_eq_true, if_true, if_false]
  iintro ⟨⟨⟨⟨R4, Q4⟩, ⟨R5, Q5⟩, R6, Q6⟩, Hl, S4, S5, S6⟩, ⟨A1, A2, A3⟩, ⟨F0, F1, F2, F3, F4⟩, B0, B1, B2, B3, B4, B5⟩
  iframe

/-! ## The whole run -/

/-- What a device's run starts from, besides the shared records: its debt, its own handshake cell and the tokens of its
    six signals, its copies' cells, its staged arguments, the result's buffer and its own buffers. -/
def runPre (c : Dev nD) : sProp 𝕄 :=
  iprop(ow c (O₀ c) ∗ (cred (tallyAt (barCell c) () 6) ∗ at0 (barCell c) ∗ bigSep Finset.univ fun j : Fin 6 => dutyTok ER (barCell (jp j c)) 0 j)
    ∗ bigSep Finset.univ (fun s : Fin 8 => cellsPre c s) ∗ (xPts I c ∗ resPts I c ∗ gamPts I c ∗ outPts I c (fun _ _ => False))
    ∗ (∃ f : Buf (Elt F) (myM.view.loc (c : Thread nD τ)), myM.view.loc (c : Thread nD τ) ↦{fullShare} f)
    ∗ bufAny s1M c ∗ bufAny poM c ∗ bufAny piM c ∗ bufAny pnM c ∗ bufAny pfM c ∗ bufAny lnM c ∗ bufAny qxM c ∗ bufAny qyM c ∗ bufAny qdM c)
/-- What it ends with: every block of the result done. -/
def runPost (c : Dev nD) : sProp 𝕄 :=
  iprop(ow c 0 ∗ fin1 (barCell c) ∗ (xPts I c ∗ resPts I c ∗ gamPts I c ∗ outPts I c (fun _ _ => True))
    ∗ bigSep Finset.univ (fun s : Fin 8 => cellsPost c s) ∗ bigSep Finset.univ (fun s : Fin 8 => rowsOwn c s))

theorem entryPre_intro (c : Dev nD) :
    iprop((bigSep Finset.univ fun j : Fin 6 => dutyTok ER (barCell (jp j c)) 0 j) ∗ (bigSep Finset.univ fun j : Fin 6 => give c j)
        ∗ cred (tallyAt (barCell c) () 6) ∗ at0 (barCell c) ∗ xPts I c
        ∗ (∃ f : Buf (Elt F) (myM.view.loc (c : Thread nD τ)), myM.view.loc (c : Thread nD τ) ↦{fullShare} f))
      ⊢ entryPre I c := by
  unfold entryPre
  simp only [barPay_give]
  rw [bigSep_fin6, bigSep_fin6]
  iintro ⟨⟨T0, T1, T2, T3, T4, T5⟩, ⟨G0, G1, G2, G3, G4, G5⟩, Hc, Ha, Hx, Hm⟩
  iframe

theorem give_outer (c : Dev nD) (hc : inner c = false) : iprop(bufAny pnM c ∗ bufAny pfM c ∗ bufAny qxM c ∗ bufAny qyM c ∗ bufAny qdM c)
    ⊢ (bigSep Finset.univ fun j : Fin 6 => give c j : sProp 𝕄) := by
  rw [bigSep_fin6]
  simp only [give, hc, Bool.false_eq_true, if_true, if_false]
  iintro ⟨G0, G2, G3, G4, G5⟩
  isplitl [G0]; · iexact G0
  isplitr; · iempintro
  isplitl [G2]; · iexact G2
  iframe
theorem give_inner (c : Dev nD) (hc : inner c = true) : iprop(bufAny s1M c ∗ bufAny piM c ∗ bufAny qxM c ∗ bufAny qyM c ∗ bufAny qdM c)
    ⊢ (bigSep Finset.univ fun j : Fin 6 => give c j : sProp 𝕄) := by
  rw [bigSep_fin6]
  simp only [give, hc, Bool.false_eq_true, if_true, if_false]
  iintro ⟨G0, G1, G3, G4, G5⟩
  isplitl [G0]; · iexact G0
  isplitl [G1]; · iexact G1
  isplitr; · iempintro
  iframe

/-- Several families over the sub-steps taken one sub-step at a time. -/
theorem outer_starts (c : Dev nD) (hc : inner c = false) :
    iprop(bigSep Finset.univ (fun s : Fin 8 => cellsPre c s) ∗ (bigSep Finset.univ fun s : Fin 8 => rowPts myM c s fullShare (myRow I c s))
        ∗ (bufAny s1M (peer 0 c) ∗ bufAny qxM (peer 4 c) ∗ bufAny qyM (peer 5 c) ∗ bufAny qdM (peer 6 c))
        ∗ bufAny s1M c ∗ bufAny poM c ∗ bufAny piM c ∗ bufAny lnM c)
      ⊢ iprop(bigSep Finset.univ (outer0 I c) ∗ bigSep Finset.univ (outerKeep c)) := by
  unfold bufAny
  simp only [← bigSep_sep']
  exact bigSep_mono fun s _ => outer_start I c hc s
theorem outer_mids (c : Dev nD) : iprop(bigSep Finset.univ (outer3 c) ∗ bigSep Finset.univ (outerKeep c))
    ⊢ (iprop(bigSep Finset.univ (tail0 c) ∗ bigSep Finset.univ (outerFin c)) : sProp 𝕄) := by
  simp only [← bigSep_sep']
  exact bigSep_mono fun s _ => outer_mid c s
theorem outer_ends (c : Dev nD) (hc : inner c = false) : iprop(bigSep Finset.univ (tail2 c) ∗ bigSep Finset.univ (outerFin c))
    ⊢ (iprop(bigSep Finset.univ (fun s => cellsPost c s) ∗ bigSep Finset.univ (fun s => rowsOwn c s)) : sProp 𝕄) := by
  simp only [← bigSep_sep']
  exact bigSep_mono fun s _ => outer_end c hc s
theorem inner_starts (c : Dev nD) (hc : inner c = true) :
    iprop(bigSep Finset.univ (fun s : Fin 8 => cellsPre c s) ∗ (bigSep Finset.univ fun s : Fin 8 => rowPts myM c s fullShare (myRow I c s))
        ∗ (bufAny piM (peer 1 c) ∗ bufAny pnM (peer 2 c) ∗ bufAny pfM (peer 3 c) ∗ bufAny qxM (peer 4 c) ∗ bufAny qyM (peer 5 c) ∗ bufAny qdM (peer 6 c))
        ∗ bufAny poM c ∗ bufAny pnM c ∗ bufAny pfM c ∗ bufAny lnM c)
      ⊢ iprop(bigSep Finset.univ (inner0 I c) ∗ bigSep Finset.univ (innerKeep c)) := by
  unfold bufAny
  simp only [← bigSep_sep']
  exact bigSep_mono fun s _ => inner_start I c hc s
theorem inner_mids (c : Dev nD) : iprop(bigSep Finset.univ (inner3 c) ∗ bigSep Finset.univ (innerKeep c))
    ⊢ (iprop(bigSep Finset.univ (tail0 c) ∗ bigSep Finset.univ (innerFin c)) : sProp 𝕄) := by
  simp only [← bigSep_sep']
  exact bigSep_mono fun s _ => inner_mid c s
theorem inner_ends (c : Dev nD) (hc : inner c = true) : iprop(bigSep Finset.univ (tail2 c) ∗ bigSep Finset.univ (innerFin c))
    ⊢ (iprop(bigSep Finset.univ (fun s => cellsPost c s) ∗ bigSep Finset.univ (fun s => rowsOwn c s)) : sProp 𝕄) := by
  simp only [← bigSep_sep']
  exact bigSep_mono fun s _ => inner_end c hc s

theorem wpc_deviceId {α : Type} {Q : α → sProp 𝕄} (c : Dev nD) (kk : Dev nD → Prog (TpuEff nD τ sig (Elt F) Λ₀ .tc) α) :
    wpc c (kk c) Q ⊢ wpc c (Prog.lift .deviceId >>= kk) Q := by
  rw [Prog.bind_lift]
  exact Entails.of_eq (wp_deviceId (defs := defs₀ (F := F)) 𝒱₀ (c : Thread nD τ) none Set.univ).symm

/-- The tail, followed by what the run ends with. -/
theorem wp_tail_to (c : Dev nD) (Q : PUnit → sProp 𝕄) :
    iprop(ctx I K ∗ (ow c 0 ∗ outPts I c (ownDone c 8)) ∗ bigSep Finset.univ (tail0 c))
      ⊢ iprop((((ow c 0 ∗ outPts I c (fun _ _ => True)) ∗ bigSep Finset.univ (tail2 c)) -∗ Q ⟨⟩) -∗ wpc c (do tailTake c; loop8 tailWait) Q) := by
  iintro H Hk
  ihave Hw := (wp_tail I K c) $$ H
  iapply (wp_wand frame (wpE (defs₀ (F := F)) 𝒱₀ (c : Thread nD τ) none) Set.univ (Q' := Q)) $$ Hw
  iintro %_ H
  iapply Hk; iexact H

theorem prog_outer (c : Dev nD) (hc : inner c = false) : iprop(ctx I K ∗ runPre I c) ⊢ wpc c prog (fun _ => runPost I c) := by
  unfold runPre runPost prog
  iintro ⟨#HC, HO, ⟨Hcr, Hat, HT⟩, Hcells, ⟨Hx, Hr, Hg, Ho⟩, Hmy, B1, B2, B3, B4, B5, B6, B7, B8, B9⟩
  iapply (wpc_deviceId c _)
  ihave HG := (give_outer c hc) $$ [B4 B5 B7 B8 B9]
  · iframe
  ihave HE := (entryPre_intro I c) $$ [HT HG Hcr Hat Hx Hmy]
  · iframe
  iapply (wp_entry I K c _) $$ [HE HO]
  · isplitr; · iexact HC
    isplitl [HE] <;> iassumption
  iintro ⟨HB, Hfin, Hx, Hmy, HO⟩
  ihave HB := (got_outer c hc) $$ HB
  ihave HS := (outer_starts I c hc) $$ [Hcells Hmy HB B1 B2 B3 B6]
  · iframe
  icases HS with ⟨HS, HK⟩
  rw [dif_pos (cond1_of_outer c hc)]
  iapply (wp_outer I K c hc (cond1_of_outer c hc) _) $$ [HO Ho Hr Hg HS]
  · isplitr; · iexact HC
    isplitl [HO Ho Hr Hg]
    · isplitl [HO]; · iexact HO
      isplitl [Ho]
      · iapply (outPts_weaken I c (fun _ _ => False) (ownDone c 0) (fun q s h => absurd h.2 (Nat.not_lt_zero _))); iexact Ho
      isplitl [Hr] <;> iassumption
    iexact HS
  iintro ⟨⟨HO, Ho, Hr, Hg⟩, HS⟩
  rw [dif_neg (not_cond2_of_outer c hc), pure_bind]
  ihave HS := (outer_mids c) $$ [HS HK]
  · isplitl [HS] <;> iassumption
  icases HS with ⟨HS, HK⟩
  iapply (wp_tail_to I K c _) $$ [HO Ho HS]
  · isplitr; · iexact HC
    isplitl [HO Ho]; · isplitl [HO] <;> iassumption
    iexact HS
  iintro ⟨⟨HO, Ho⟩, HS⟩
  ihave HS := (outer_ends c hc) $$ [HS HK]
  · isplitl [HS] <;> iassumption
  icases HS with ⟨HS, HK⟩
  iframe

theorem prog_inner (c : Dev nD) (hc : inner c = true) : iprop(ctx I K ∗ runPre I c) ⊢ wpc c prog (fun _ => runPost I c) := by
  unfold runPre runPost prog
  iintro ⟨#HC, HO, ⟨Hcr, Hat, HT⟩, Hcells, ⟨Hx, Hr, Hg, Ho⟩, Hmy, B1, B2, B3, B4, B5, B6, B7, B8, B9⟩
  iapply (wpc_deviceId c _)
  ihave HG := (give_inner c hc) $$ [B1 B3 B7 B8 B9]
  · iframe
  ihave HE := (entryPre_intro I c) $$ [HT HG Hcr Hat Hx Hmy]
  · iframe
  iapply (wp_entry I K c _) $$ [HE HO]
  · isplitr; · iexact HC
    isplitl [HE] <;> iassumption
  iintro ⟨HB, Hfin, Hx, Hmy, HO⟩
  ihave HB := (got_inner c hc) $$ HB
  ihave HS := (inner_starts I c hc) $$ [Hcells Hmy HB B2 B4 B5 B6]
  · iframe
  icases HS with ⟨HS, HK⟩
  rw [dif_neg (not_cond1_of_inner c hc), pure_bind, dif_pos (cond2_of_inner c hc)]
  iapply (wp_inner I K c hc (cond2_of_inner c hc) _) $$ [HO Ho Hr Hg HS]
  · isplitr; · iexact HC
    isplitl [HO Ho Hr Hg]
    · isplitl [HO]; · iexact HO
      isplitl [Ho]
      · iapply (outPts_weaken I c (fun _ _ => False) (ownDone c 0) (fun q s h => absurd h.2 (Nat.not_lt_zero _))); iexact Ho
      isplitl [Hr] <;> iassumption
    iexact HS
  iintro ⟨⟨HO, Ho, Hr, Hg⟩, HS⟩
  ihave HS := (inner_mids c) $$ [HS HK]
  · isplitl [HS] <;> iassumption
  icases HS with ⟨HS, HK⟩
  iapply (wp_tail_to I K c _) $$ [HO Ho HS]
  · isplitr; · iexact HC
    isplitl [HO Ho]; · isplitl [HO] <;> iassumption
    iexact HS
  iintro ⟨⟨HO, Ho⟩, HS⟩
  ihave HS := (inner_ends c hc) $$ [HS HK]
  · isplitl [HS] <;> iassumption
  icases HS with ⟨HS, HK⟩
  iframe

/-- A device's run. -/
theorem wp_prog (c : Dev nD) : iprop(ctx I K ∗ runPre I c) ⊢ wpc c prog (fun _ => runPost I c) := by
  cases h : inner c with
  | false => exact prog_outer I K c h
  | true => exact prog_inner I K c h

end Cert.KernelIdeal.Own

end
-- ==== Proof.Deal.lean ====
/-
The launch's side of the protocol: every cell allocated, the duty tokens dealt to the devices that pay them, and the
credit every cell is launched with.
-/
module

public import proofs.«01_k».proof.Proof.Whole

@[expose] public section

set_option maxRecDepth 4000

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (I : Args F) (K : Dev nD × CI → ℕ)

/-! ## Families -/

/-- The copies' cells of a device: side, sub-step and kind. -/
abbrev I3 : Type := Fin 2 × Fin 8 × Fin 7

theorem bigSep_opt {J : Type} [Fintype J] [DecidableEq J] (Φ : Option J → sProp 𝕄) :
    bigSep Finset.univ Φ = iprop(Φ none ∗ bigSep Finset.univ fun j => Φ (some j)) := by
  rw [bigSep_univ_at Φ none, show (Finset.univ.erase none : Finset (Option J)) = Finset.univ.map Function.Embedding.some from by
    ext x; cases x <;> simp, bigSep_map]
  rfl

theorem bigSep_sides (Φ : I3 → sProp 𝕄) :
    bigSep Finset.univ Φ = iprop((bigSep Finset.univ fun s : Fin 8 => bigSep Finset.univ fun k : Fin 7 => Φ (0, s, k))
      ∗ bigSep Finset.univ fun s : Fin 8 => bigSep Finset.univ fun k : Fin 7 => Φ (1, s, k)) := by
  rw [bigSep_univ_prod, bigSep_fin_two, bigSep_univ_prod, bigSep_univ_prod]
  rfl

/-- A family over two indices, its first index permuted at every second one. -/
theorem bigSep_around {A B : Type} [Fintype A] [Fintype B] (e : B → A ≃ A) (Φ : A → B → sProp 𝕄) :
    (bigSep Finset.univ fun a => bigSep Finset.univ fun b => Φ a b) = bigSep Finset.univ fun a => bigSep Finset.univ fun b => Φ (e b a) b := by
  rw [bigSep_univ_comm, bigSep_univ_comm (fun a b => Φ (e b a) b)]
  exact bigSep_congr fun b _ => bigSep_univ_equiv (e b) (fun a => Φ a b)

/-! ## The cells -/

theorem csem_injective : Function.Injective csem := by
  have h : ∀ a b : CI, csem a = csem b → a = b := by decide +kernel
  exact fun a b => h a b
theorem kcell_injective : Function.Injective (kcell : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- The duties of a device's own cells: its handshake cell's six, and one of each copy's cells. -/
abbrev TI : Type := Fin 6 ⊕ I3
def tokOf : Dev nD × TI → GSem nD τ sig × ℕ × Fin 6
  | (c, .inl j) => (kcell (c, none), 0, j)
  | (c, .inr i) => (kcell (c, some i), 0, 0)
theorem tokOf_injective : Function.Injective tokOf := by
  rintro ⟨c, j | i⟩ ⟨c', j' | i'⟩ h
  · have h1 := kcell_injective (congrArg Prod.fst h)
    have h2 : j = j' := congrArg (fun x : GSem nD τ sig × ℕ × Fin 6 => x.2.2) h
    have h3 : c = c' := congrArg Prod.fst h1
    rw [h2, h3]
  · exact absurd (congrArg Prod.snd (kcell_injective (congrArg Prod.fst h))) (fun h' => by cases h')
  · exact absurd (congrArg Prod.snd (kcell_injective (congrArg Prod.fst h))) (fun h' => by cases h')
  · have h1 := kcell_injective (congrArg Prod.fst h)
    have h2 : i = i' := Option.some.inj (congrArg Prod.snd h1)
    have h3 : c = c' := congrArg Prod.fst h1
    rw [h2, h3]
def allToks : Finset (GSem nD τ sig × ℕ × Fin 6) := Finset.univ.map ⟨tokOf, tokOf_injective⟩

/-! ## The deal -/

/-- The duty tokens of device `c`'s own cells; -/
def toks (c : Dev nD) : sProp 𝕄 :=
  iprop((bigSep Finset.univ fun j : Fin 6 => dutyTok ER (barCell c) 0 j)
    ∗ (bigSep Finset.univ fun s : Fin 8 => bigSep Finset.univ fun k : Fin 7 => dutyTok ER (sndCell c s k) 0 (0 : Fin 6))
    ∗ bigSep Finset.univ fun s : Fin 8 => bigSep Finset.univ fun k : Fin 7 => dutyTok ER (rcvCell c s k) 0 (0 : Fin 6))
/-- the tokens device `c` pays with. -/
def payToks (c : Dev nD) : sProp 𝕄 :=
  iprop((bigSep Finset.univ fun j : Fin 6 => dutyTok ER (barCell (jp j c)) 0 j)
    ∗ (bigSep Finset.univ fun s : Fin 8 => bigSep Finset.univ fun k : Fin 7 => dutyTok ER (sndCell c s k) 0 (0 : Fin 6))
    ∗ bigSep Finset.univ fun s : Fin 8 => bigSep Finset.univ fun k : Fin 7 => dutyTok ER (rcvCell (peer k c) s k) 0 (0 : Fin 6))

/-- Every token goes to the device that pays it. -/
theorem toks_around : (bigSep Finset.univ fun c : Dev nD => (toks c : sProp 𝕄)) = bigSep Finset.univ fun c : Dev nD => payToks c := by
  have hs (s : Fin 8) : (bigSep Finset.univ fun c : Dev nD => bigSep Finset.univ fun k : Fin 7 => (dutyTok ER (rcvCell c s k) 0 (0 : Fin 6) : sProp 𝕄))
      = bigSep Finset.univ fun c : Dev nD => bigSep Finset.univ fun k : Fin 7 => dutyTok ER (rcvCell (peer k c) s k) 0 (0 : Fin 6) :=
    bigSep_around peerEquiv (fun c k => (dutyTok ER (rcvCell c s k) 0 (0 : Fin 6) : sProp 𝕄))
  unfold toks payToks
  rw [bigSep_sep', bigSep_sep', bigSep_sep', bigSep_sep', bigSep_around jpEquiv (fun c j => (dutyTok ER (barCell c) 0 j : sProp 𝕄)),
    bigSep_univ_comm (fun (c : Dev nD) (s : Fin 8) => bigSep Finset.univ fun k : Fin 7 => (dutyTok ER (rcvCell c s k) 0 (0 : Fin 6) : sProp 𝕄)),
    bigSep_congr fun s _ => hs s,
    bigSep_univ_comm (fun (s : Fin 8) (c : Dev nD) => bigSep Finset.univ fun k : Fin 7 => (dutyTok ER (rcvCell (peer k c) s k) 0 (0 : Fin 6) : sProp 𝕄))]
  rfl

/-- What the launch deals device `c`: its cells' states and positions, and its own cells' tokens. -/
def G (c : Dev nD) : sProp 𝕄 :=
  iprop((bigSep Finset.univ fun k : CI => roundState ER (rd I) (kcell (c, k)) 0)
    ∗ (bigSep Finset.univ fun k : CI => atPos ER (kcell (c, k)) 0 ∅ 0) ∗ (bigSep Finset.univ fun k : CI => reached ER (kcell (c, k)) 0) ∗ toks c)
/-- What device `c` has to itself after the allocation. -/
def linear (c : Dev nD) : sProp 𝕄 := iprop((bigSep Finset.univ fun k : CI => atPos ER (kcell (c, k)) 0 ∅ 0) ∗ payToks c)
def G' (c : Dev nD) : sProp 𝕄 := iprop(∃ K, records I K ∗ linear c)

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_sides]; rfl
  iintro HX
  imod (Rounds.fund ER (rd I) allCells allToks) $$ HX with ⟨Hst, Hr, Hat, Htok⟩
  imodintro
  ihave Hst' := (Entails.of_eq (hX fun g => roundState ER (rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-! ## The allocation -/

/-- The kernel's own semaphores. -/
abbrev osem : I3 → SemLoc sig := fun i => csem (some i)
theorem ownSemFacts : Pipeline.OwnSemFacts cfg0.spec osem where
  isScoped := by decide +kernel
  inj := fun a b h => Option.some.inj (csem_injective h)
  disj := by decide +kernel

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_opt]
  unfold Pipeline.ownSems0
  iintro ⟨HO, HB⟩
  isplitl [HB]; · iexact HB
  iexact HO

/-- One device's cells allocated, each at some name. -/
theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : CI => iprop(∃ κ : ℕ, cellInv ER (rd I) κ (kcell (c, k))))
          ∗ (bigSep Finset.univ fun k : CI => atPos ER (kcell (c, k)) 0 ∅ 0) ∗ (bigSep Finset.univ fun k : CI => reached ER (kcell (c, k)) 0) ∗ toks c) := by
  unfold G
  iintro ⟨Hos, Hus, Hst, Hrest⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (rd I) (kcell (c, k)) 0)
      ⊢ (|={Set.univ}=> bigSep Finset.univ fun k => iprop(∃ κ : ℕ, cellInv ER (rd I) κ (kcell (c, k))) : sProp 𝕄) from by
        rw [← bigSep_sep']
        exact (bigSep_mono fun k _ => (Rounds.body_intro ER (rd I) (kcell (c, k))).trans inv_alloc).trans (bigSep_fupd _ _)) $$ [Hv Hst] with Hinv
  · isplitl [Hv] <;> iassumption
  imodintro
  isplitl [Hinv]; · iexact Hinv
  iexact Hrest

theorem share_out (c : Dev nD) : iprop(records I K ∗ linear c) ⊢ G' I c := by
  unfold G'
  iintro H
  iexists K; iexact H

/-- All devices' cells allocated: the names are shared and the tokens dealt. -/
theorem regroup :
    (bigSep Finset.univ fun c : Dev nD => iprop((bigSep Finset.univ fun k : CI => iprop(∃ κ : ℕ, cellInv ER (rd I) κ (kcell (c, k))))
          ∗ (bigSep Finset.univ fun k : CI => atPos ER (kcell (c, k)) 0 ∅ 0) ∗ (bigSep Finset.univ fun k : CI => reached ER (kcell (c, k)) 0) ∗ toks c) : sProp 𝕄)
      ⊢ bigSep Finset.univ (G' I) := by
  rw [bigSep_sep', bigSep_sep', bigSep_sep', ← bigSep_univ_prod (fun ck : Dev nD × CI => iprop(∃ κ : ℕ, cellInv ER (rd I) κ (kcell ck))),
    ← bigSep_univ_prod (fun ck : Dev nD × CI => (reached ER (kcell ck) 0 : sProp 𝕄)), toks_around]
  iintro ⟨HI, Hat, #HR, Htok⟩
  ihave HK := (BI.bigSep_exists_pi Finset.univ (fun (ck : Dev nD × CI) (κ : ℕ) => (cellInv ER (rd I) κ (kcell ck) : sProp 𝕄))) $$ HI
  icases HK with ⟨%K, #HI⟩
  iapply (bigSep_with_persistent (R := records I K) fun c _ => share_out I K c)
  isplitr
  · unfold records; isplitl; · iexact HI
    iexact HR
  · iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htok

/-- The allocation of every device's cells under one update. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

/-! ## The launch credit -/

/-- What is owed to a receiving side: a row block's credit if the copy is made. -/
def due (c : Dev nD) (k : Fin 7) : ℕ := if recvUsed c k then N else 0

/-- What a device owes for its copies is what each of its receivers is due. -/
theorem O₁_eq (c : Dev nD) : O₁ c = ∑ x : Fin 8 × Fin 7, tallyAt (rcvCell (peer x.2 c) x.1 x.2) () (due (peer x.2 c) x.2) := by
  have hz (g : GSem nD τ sig) : tallyAt g () 0 = (0 : CellTallies nD τ sig Unit) := by
    funext g'; refine Finsupp.ext fun u => ?_; rw [tallyAt_apply]; split <;> rfl
  unfold O₁
  rw [Rem_zero, Rem_zero, ← Finset.sum_add_distrib, Fintype.sum_prod_type]
  refine Finset.sum_congr rfl fun s _ => ?_
  have hd (k : Fin 7) : due (peer k c) k = if sendUsed c k then N else 0 := by unfold due recvUsed; rw [peer_peer]
  simp only [hd]
  rw [Fin.sum_univ_seven]
  unfold oweA oweB oweK
  cases h : inner c with
  | false =>
    have t := table_outer c h
    simp only [fun k => (t k).1, Matrix.cons_val, Bool.false_eq_true, if_true, if_false, hz, add_zero, zero_add]
    ac_rfl
  | true =>
    have t := table_inner c h
    simp only [fun k => (t k).1, Matrix.cons_val, Bool.false_eq_true, if_true, if_false, hz, add_zero, zero_add]
    ac_rfl

/-- A double sum, its first index permuted at every second one. -/
theorem sum_around {A B M : Type} [Fintype A] [Fintype B] [AddCommMonoid M] (e : B → A ≃ A) (f : A → B → M) :
    (∑ a, ∑ b, f (e b a) b) = ∑ a, ∑ b, f a b := by
  rw [Finset.sum_comm, Finset.sum_comm (f := f)]
  exact Finset.sum_congr rfl fun b _ => Equiv.sum_comp (e b) (fun a => f a b)

/-- Everything owed at launch, cell by cell. -/
theorem owed_all : (∑ c : Dev nD, O₀ c)
    = (∑ c : Dev nD, ∑ x : Fin 8 × Fin 7, tallyAt (rcvCell c x.1 x.2) () (due c x.2)) + ∑ c : Dev nD, ∑ j : Fin 6, tallyAt (barCell c) () 1 := by
  have h₀ (c : Dev nD) : O₀ c = O₁ c + ∑ j : Fin 6, oweBar c j := by
    rw [Fin.sum_univ_six]; unfold O₀; ac_rfl
  rw [Finset.sum_congr rfl fun c _ => h₀ c, Finset.sum_add_distrib, Finset.sum_congr rfl fun c _ => O₁_eq c]
  exact congrArg₂ (· + ·) (sum_around (fun x : Fin 8 × Fin 7 => peerEquiv x.2) (fun c x => (tallyAt (rcvCell c x.1 x.2) () (due c x.2) : CellTallies nD τ sig Unit)))
    (sum_around jpEquiv (fun c _ => (tallyAt (barCell c) () 1 : CellTallies nD τ sig Unit)))

theorem sum_at {J : Type} [Fintype J] (f : J → CellTallies nD τ sig Unit) (g : GSem nD τ sig) : (∑ j, f j) g () = ∑ j, f j g () := by
  rw [Finset.sum_apply, Finsupp.finset_sum_apply]

theorem owed_at (g : GSem nD τ sig) : (∑ c : Dev nD, O₀ c g ()) =
    (∑ c : Dev nD, ∑ x : Fin 8 × Fin 7, if g = rcvCell c x.1 x.2 then due c x.2 else 0) + ∑ c : Dev nD, if g = barCell c then 6 else 0 := by
  have ht (g' : GSem nD τ sig) (n : ℕ) : (tallyAt g' () n : CellTallies nD τ sig Unit) g () = if g = g' then n else 0 := by
    rw [tallyAt_apply]; simp only [and_true]
  rw [← sum_at, owed_all, Pi.add_apply, Finsupp.add_apply, sum_at, sum_at]
  refine congrArg₂ (· + ·) (Finset.sum_congr rfl fun c _ => ?_) (Finset.sum_congr rfl fun c _ => ?_)
  · rw [sum_at]; exact Finset.sum_congr rfl fun x _ => ht _ _
  · rw [sum_at, Finset.sum_congr rfl fun _ _ => ht _ _, Finset.sum_const, Finset.card_univ, Fintype.card_fin]
    split <;> rfl

theorem cell_eq_iff (c c' : Dev nD) (a b : CI) : kcell (c, a) = kcell (c', b) ↔ c = c' ∧ a = b :=
  ⟨fun h => Prod.mk.inj (kcell_injective h), fun h => by rw [h.1, h.2]⟩

theorem owed_bar (c : Dev nD) : (∑ d : Dev nD, O₀ d (barCell c) ()) = 6 := by
  rw [owed_at]
  have h1 (d : Dev nD) (x : Fin 8 × Fin 7) : ¬ barCell c = rcvCell d x.1 x.2 := fun h => by
    have := ((cell_eq_iff c d none (some (1, x.1, x.2))).mp h).2; cases this
  have h2 (d : Dev nD) : barCell c = barCell d ↔ d = c :=
    ⟨fun h => ((cell_eq_iff c d none none).mp h).1.symm, fun h => by rw [h]⟩
  simp only [h1, if_false, Finset.sum_const_zero, zero_add, h2, Finset.sum_ite_eq', Finset.mem_univ, if_true]
theorem owed_rcv (c : Dev nD) (s : Fin 8) (k : Fin 7) : (∑ d : Dev nD, O₀ d (rcvCell c s k) ()) = due c k := by
  rw [owed_at]
  have h1 (d : Dev nD) : ¬ rcvCell c s k = barCell d := fun h => by
    have := ((cell_eq_iff c d (some (1, s, k)) none).mp h).2; cases this
  have h2 (d : Dev nD) (x : Fin 8 × Fin 7) : rcvCell c s k = rcvCell d x.1 x.2 ↔ d = c ∧ x = (s, k) := by
    refine (cell_eq_iff c d (some (1, s, k)) (some (1, x.1, x.2))).trans ⟨fun h => ⟨h.1.symm, ?_⟩, fun h => ⟨h.1.symm, by rw [h.2]⟩⟩
    have := Option.some.inj h.2
    exact (Prod.mk.inj this).2.symm
  simp only [h1, if_false, Finset.sum_const_zero, add_zero, h2]
  rw [Finset.sum_eq_single c (fun d _ hd => Finset.sum_eq_zero fun x _ => if_neg fun h => hd h.1) (fun h => absurd (Finset.mem_univ _) h),
    Finset.sum_eq_single (s, k) (fun x _ hx => if_neg fun h => hx h.2) (fun h => absurd (Finset.mem_univ _) h), if_pos ⟨rfl, rfl⟩]

theorem launch_bar (c : Dev nD) :
    tallyOn (barCell c) (launchCredit (Pipeline.owing O₀) 0 (barCell c)) = (tallyAt (barCell c) () 6 : CellTallies nD τ sig Unit) := by
  unfold tallyAt; refine congrArg _ (Finsupp.ext fun u => ?_); cases u
  rw [Pipeline.launchCredit_owing, Finsupp.single_eq_same, owed_bar]
theorem launch_rcv (c : Dev nD) (s : Fin 8) (k : Fin 7) :
    tallyOn (rcvCell c s k) (launchCredit (Pipeline.owing O₀) 0 (rcvCell c s k)) = (tallyAt (rcvCell c s k) () (due c k) : CellTallies nD τ sig Unit) := by
  unfold tallyAt; refine congrArg _ (Finsupp.ext fun u => ?_); cases u
  rw [Pipeline.launchCredit_owing, Finsupp.single_eq_same, owed_rcv]

/-- The credit device `c` is launched with: six units of its handshake, and what it is due of every copy. -/
theorem creds (c : Dev nD) :
    (Pipeline.launchCred O₀ c : sProp 𝕄) ⊢ iprop(cred (tallyAt (barCell c) () 6)
      ∗ bigSep Finset.univ fun s : Fin 8 => bigSep Finset.univ fun k : Fin 7 => cred (tallyAt (rcvCell c s k) () (due c k))) := by
  have hsub (Φ : SemLoc sig → sProp 𝕄) : bigSep Finset.univ Φ ⊢ bigSep Finset.univ fun i : CI => Φ (csem i) := by
    have h := bigSep_subset (Φ := Φ) (Finset.subset_univ (Finset.univ.map ⟨csem, csem_injective⟩))
    rw [bigSep_map] at h
    exact h
  unfold Pipeline.launchCred
  refine (hsub _).trans ?_
  rw [bigSep_opt, bigSep_sides]
  iintro ⟨HB, -, HR⟩
  isplitl [HB]
  · iapply (Entails.of_eq (congrArg cred (launch_bar c))); iexact HB
  · iapply (Entails.of_eq (bigSep_congr fun s _ => bigSep_congr fun k _ => congrArg cred (launch_rcv c s k))); iexact HR

/-! ## Closing the cells -/

theorem close_cell (ck : Dev nD × CI) (R : ℕ) (h : ∀ r, R ≤ r → (rd I).duties (kcell ck) r = ∅) :
    iprop(ctx I K ∗ atPos ER (kcell ck) R ∅ 0) ⊢ |={Set.univ}=> (semVal (kcell ck) 0 : sProp 𝕄) := by
  iintro ⟨#HC, Hat⟩
  imod (Rounds.cell_close ER (rd I) (Set.mem_univ (K ck)) (fun h => h) (R := R) h) $$ [Hat] with Hz
  · isplitr
    · iapply (ctx_inv I K ck); iexact HC
    iexact Hat
  imodintro
  iexact Hz

theorem close_copy (c : Dev nD) (s : Fin 8) (k : Fin 7) :
    iprop(ctx I K ∗ cellPost c s k) ⊢ |={Set.univ}=> iprop(semVal (sndCell c s k) 0 ∗ semVal (rcvCell c s k) 0 : sProp 𝕄) := by
  have hs : ∀ r, (if sendUsed c k then 1 else 0) ≤ r → (rd I).duties (kcell (c, some (0, s, k))) r = ∅ := by
    cases h : sendUsed c k with
    | false => exact duties_snd_unused I c s k h
    | true => exact duties_later I _
  have hr : ∀ r, (if recvUsed c k then 1 else 0) ≤ r → (rd I).duties (kcell (c, some (1, s, k))) r = ∅ := by
    cases h : recvUsed c k with
    | false => exact duties_rcv_unused I c s k h
    | true => exact duties_later I _
  unfold cellPost
  iintro ⟨#HC, HS, HR⟩
  imod (close_cell I K (c, some (0, s, k)) _ hs) $$ [HS] with HS
  · isplitr; · iexact HC
    iexact HS
  imod (close_cell I K (c, some (1, s, k)) _ hr) $$ [HR] with HR
  · isplitr; · iexact HC
    iexact HR
  imodintro
  isplitl [HS]; · iexact HS
  iexact HR

theorem close_copies (c : Dev nD) :
    iprop(ctx I K ∗ bigSep Finset.univ fun s : Fin 8 => cellsPost c s)
      ⊢ |={Set.univ}=> (Pipeline.ownSems0 (Ix := Unit) (Name := ℕ) (U := UU) (Lvl := ℕ) (Val := Elt F) (τ := τ) osem c : sProp 𝕄) := by
  have h : iprop(ctx I K ∗ bigSep Finset.univ fun s : Fin 8 => cellsPost c s)
      ⊢ |={Set.univ}=> bigSep Finset.univ fun s : Fin 8 => bigSep Finset.univ fun k : Fin 7 => iprop(semVal (sndCell c s k) 0 ∗ semVal (rcvCell c s k) 0 : sProp 𝕄) :=
    (bigSep_with_persistent (R := ctx I K) fun s _ => (show iprop(ctx I K ∗ cellsPost c s) ⊢ _ from
      (bigSep_with_persistent (R := ctx I K) fun k _ => close_copy I K c s k).trans (bigSep_fupd _ _))).trans (bigSep_fupd _ _)
  refine h.trans (BI.fupd_mono (Entails.of_eq ?_))
  unfold Pipeline.ownSems0
  rw [bigSep_sides, ← bigSep_sep']
  exact bigSep_congr fun s _ => bigSep_sep' _ _ _

end Cert.KernelIdeal.Own

end
-- ==== Proof.Run.lean ====
/-
The launch of the kernel: its proof data, the body obligation, and the run of `@main` with the contents it ends at.
-/
module

public import proofs.«01_k».proof.Proof.Deal
public import proofs.«01_k».proof.Proof.Gen.KernelIdeal.Frame
public import Idealize.ShloMosaic.Lib.Pipeline.Value
public import Idealize.ShloMosaic.Lib.Pipeline.CollectiveSegs

@[expose] public section

set_option maxRecDepth 4000

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The result's contents -/

section Result
variable (I : Args F)

/-- The quarter and the sub-step of a row of the result. -/
def rowQ (n : Fin 1024) : Fin 4 := ⟨n.val / 256, by omega⟩
def rowS (n : Fin 1024) : Fin 8 := ⟨n.val / 32 % 8, by omega⟩

/-- An element's place within its block. -/
def inBlk (i : S1024x1024.Idx) : S32x1024.Idx := fun a => ⟨![(i 0).val % 32, (i 1).val] a, by
  have h : (i 1).val < 1024 := (i 1).isLt
  fin_cases a
  · show (i 0).val % 32 < 32
    omega
  · show (i 1).val < 1024
    omega⟩

/-- The result of device `c`: every element read off its block. -/
def OUT (c : Dev nD) : S1024x1024.Idx → F .f32 := fun i =>
  outv I c (rowQ (i 0)) (rowS (i 0)) (inBlk i)

/-- An element of the result sits in its block. -/
theorem blk_place (i : S1024x1024.Idx) :
    (blkRect (rowQ (i 0)) (rowS (i 0))).emb (inBlk i) = i := by
  have h : (i 0).val < 1024 := (i 0).isLt
  funext a
  refine Fin.ext ?_
  fin_cases a
  · show 256 * ((i 0).val / 256) + 32 * ((i 0).val / 32 % 8) + 1 * ((i 0).val % 32) = (i 0).val
    omega
  · show 0 + 1 * (i 1).val = (i 1).val
    omega

/-- Contents whose every block reads as the result are the result. -/
theorem out_of_blocks (c : Dev nD) (f : S1024x1024.Idx → F .f32)
    (h : ∀ q s, (oM.access (blkRect q s)).read (Elt F) f = outv I c q s) : f = OUT I c := by
  funext i
  have h1 := congrFun (h (rowQ (i 0)) (rowS (i 0))) (inBlk i)
  have h2 : f ((blkRect (rowQ (i 0)) (rowS (i 0))).emb (inBlk i)) = OUT I c i := h1
  rwa [blk_place] at h2

end Result

variable (m : (ℓ : Loc nD τ sig) → Buf (Elt F) ℓ) (ρ : Dev nD → PrngReg)

/-- The arguments as the launch finds them. -/
def argsOf : Args F where
  x c := (win0_0.blk (0 : Fin 1)).view.read (Elt F) (m ((c : Thread nD τ).loc main_arg0))
  r c := (win0_1.blk (0 : Fin 1)).view.read (Elt F) (m ((c : Thread nD τ).loc main_arg1))
  g c := (win0_2.blk (0 : Fin 1)).view.read (Elt F) (m ((c : Thread nD τ).loc main_arg2))

/-! ## The proof data -/

/-- What device `c` starts with: its records, positions and tokens, its credit and the levels. -/
def start (c : Dev nD) : sProp 𝕄 :=
  iprop(G' (argsOf m) c ∗ (cred (tallyAt (barCell c) () 6)
      ∗ bigSep Finset.univ fun s : Fin 8 => bigSep Finset.univ fun k : Fin 7 => cred (tallyAt (rcvCell c s k) () (due c k))) ∗ levAts L lv)
def Φ₀ (c : Dev nD) : sProp 𝕄 := iprop(start m c ∗ Pipeline.scopedRest cfg0.spec c)
def Φ₁ (c : Dev nD) : sProp 𝕄 :=
  iprop(semVal (barCell c) 0 ∗ Pipeline.ownSems0 (Ix := Unit) (Name := ℕ) (U := UU) (Lvl := ℕ) (Val := Elt F) (τ := τ) osem c ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => (argsOf m).x c
    | ⟨1, _⟩ => (argsOf m).r c
    | ⟨2, _⟩ => (argsOf m).g c
    | ⟨3, _⟩ => OUT (argsOf m) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-! ## The body obligation -/

theorem before_x (c : Dev nD) (d) : (dats m 0 c).before (0 : Fin 4) t0_0 d = (argsOf m).x c := by
  unfold Dat.before; rw [if_pos (fetch0_0 _)]; rfl
theorem before_r (c : Dev nD) (d) : (dats m 0 c).before (1 : Fin 4) t0_0 d = (argsOf m).r c := by
  unfold Dat.before; rw [if_pos (fetch0_1 _)]; rfl
theorem before_g (c : Dev nD) (d) : (dats m 0 c).before (2 : Fin 4) t0_0 d = (argsOf m).g c := by
  unfold Dat.before; rw [if_pos (fetch0_2 _)]; rfl

/-- A device's own cells and tokens, regrouped by sub-step and kind. -/
theorem cells_intro (c : Dev nD) :
    iprop(linear c ∗ bigSep Finset.univ fun s : Fin 8 => bigSep Finset.univ fun k : Fin 7 => cred (tallyAt (rcvCell c s k) () (due c k)))
      ⊢ (iprop(at0 (barCell c) ∗ (bigSep Finset.univ fun j : Fin 6 => dutyTok ER (barCell (jp j c)) 0 j) ∗ bigSep Finset.univ fun s : Fin 8 => cellsPre c s) : sProp 𝕄) := by
  unfold linear payToks cellsPre cellPre tok due at0
  simp only [bigSep_sep']
  rw [bigSep_opt, bigSep_sides]
  iintro ⟨⟨⟨HB, HS, HR⟩, HJ, HT, HU⟩, HC⟩
  isplitl [HB]; · iexact HB
  isplitl [HJ]; · iexact HJ
  isplitl [HS]; · iexact HS
  isplitl [HR]; · iexact HR
  isplitl [HC]; · iexact HC
  isplitl [HT]; · iexact HT
  iexact HU

theorem bufAny_eq (A : Buf8) (c : Dev nD) : (bufAny A c : sProp 𝕄) = bigSep Finset.univ fun s : Fin 8 => rowAny A c s := rfl

/-- The row blocks of every own buffer are the buffers again. -/
theorem rows_back (c : Dev nD) : (bigSep Finset.univ (fun s : Fin 8 => rowsOwn c s) : sProp 𝕄) ⊢ Pipeline.scopedRest cfg0.spec c := by
  have w (A : Buf8) (hA : A.IsWhole) : (bufAny A c : sProp 𝕄) ⊢ iprop(∃ f : Buf (Elt F) (A.view.loc (c : Thread nD τ)), A.view.loc (c : Thread nD τ) ↦{fullShare} f) :=
    whole_of_bufAny A hA c (fun _ => Classical.arbitrary _)
  rw [scopedRest0_eq]
  unfold rowsOwn
  simp only [bigSep_sep']
  simp only [← bufAny_eq]
  iintro ⟨A0, A1, A2, A3, A4, A5, A6, A7, A8, A9⟩
  isplitl [A0]; · iapply (w myM (Memref.isWhole_whole _)); iexact A0
  isplitl [A1]; · iapply (w s1M (Memref.isWhole_whole _)); iexact A1
  isplitl [A2]; · iapply (w poM (Memref.isWhole_whole _)); iexact A2
  isplitl [A3]; · iapply (w piM (Memref.isWhole_whole _)); iexact A3
  isplitl [A4]; · iapply (w pnM (Memref.isWhole_whole _)); iexact A4
  isplitl [A5]; · iapply (w pfM (Memref.isWhole_whole _)); iexact A5
  isplitl [A6]; · iapply (w lnM (Memref.isWhole_whole _)); iexact A6
  isplitl [A7]; · iapply (w qxM (Memref.isWhole_whole _)); iexact A7
  isplitl [A8]; · iapply (w qyM (Memref.isWhole_whole _)); iexact A8
  iapply (w qdM (Memref.isWhole_whole _)); iexact A9

/-- The own buffers as the launch gives them. -/
theorem bufs_intro (c : Dev nD) : (Pipeline.scopedRest cfg0.spec c : sProp 𝕄)
    ⊢ iprop((∃ f : Buf (Elt F) (myM.view.loc (c : Thread nD τ)), myM.view.loc (c : Thread nD τ) ↦{fullShare} f)
      ∗ bufAny s1M c ∗ bufAny poM c ∗ bufAny piM c ∗ bufAny pnM c ∗ bufAny pfM c ∗ bufAny lnM c ∗ bufAny qxM c ∗ bufAny qyM c ∗ bufAny qdM c) := by
  rw [scopedRest0_eq]
  iintro ⟨A0, ⟨%f1, A1⟩, ⟨%f2, A2⟩, ⟨%f3, A3⟩, ⟨%f4, A4⟩, ⟨%f5, A5⟩, ⟨%f6, A6⟩, ⟨%f7, A7⟩, ⟨%f8, A8⟩, ⟨%f9, A9⟩⟩
  isplitl [A0]; · iexact A0
  isplitl [A1]; · iapply (bufAny_of_whole s1M (Memref.isWhole_whole _) c f1); iexact A1
  isplitl [A2]; · iapply (bufAny_of_whole poM (Memref.isWhole_whole _) c f2); iexact A2
  isplitl [A3]; · iapply (bufAny_of_whole piM (Memref.isWhole_whole _) c f3); iexact A3
  isplitl [A4]; · iapply (bufAny_of_whole pnM (Memref.isWhole_whole _) c f4); iexact A4
  isplitl [A5]; · iapply (bufAny_of_whole pfM (Memref.isWhole_whole _) c f5); iexact A5
  isplitl [A6]; · iapply (bufAny_of_whole lnM (Memref.isWhole_whole _) c f6); iexact A6
  isplitl [A7]; · iapply (bufAny_of_whole qxM (Memref.isWhole_whole _) c f7); iexact A7
  isplitl [A8]; · iapply (bufAny_of_whole qyM (Memref.isWhole_whole _) c f8); iexact A8
  iapply (bufAny_of_whole qdM (Memref.isWhole_whole _) c f9); iexact A9

/-- What the body starts from and what it ends with, the staging buffers at their contents. -/
def bodyPre (c : Dev nD) : sProp 𝕄 :=
  iprop(Φ₀ m c ∗ ow c (O₀ c) ∗ (xPts (argsOf m) c ∗ resPts (argsOf m) c ∗ gamPts (argsOf m) c
    ∗ ∃ f : Buf (Elt F) (oM.view.loc (c : Thread nD τ)), oM.view.loc (c : Thread nD τ) ↦{fullShare} f))
def bodyPost (c : Dev nD) : sProp 𝕄 :=
  iprop(Φ₁ c ∗ ow c 0 ∗ (xPts (argsOf m) c ∗ resPts (argsOf m) c ∗ gamPts (argsOf m) c ∗ (oM.view.loc (c : Thread nD τ) ↦{fullShare} OUT (argsOf m) c)))

theorem run_close (K : Dev nD × CI → ℕ) (c : Dev nD) :
    iprop(ctx (argsOf m) K ∗ runPost (argsOf m) c) ⊢ |={Set.univ}=> bodyPost m c := by
  unfold runPost outPts bodyPost Φ₁
  iintro ⟨#HC, HO, HB, ⟨Hx, Hr, Hg, ⟨%f, Hf, %hf⟩⟩, Hcells, Hrows⟩
  imod (close_cell (argsOf m) K (c, none) 1 (duties_later (argsOf m) _)) $$ [HB] with HB
  · isplitr; · iexact HC
    unfold fin1; iexact HB
  imod (close_copies (argsOf m) K c) $$ [Hcells] with Hs
  · isplitr; · iexact HC
    iexact Hcells
  ihave Hw := (rows_back (F := F) c) $$ Hrows
  imodintro
  rw [← out_of_blocks (argsOf m) c f fun q s => hf q s trivial]
  isplitl [HB Hs Hw]
  · isplitl [HB]; · iexact HB
    isplitl [Hs]; · iexact Hs
    iexact Hw
  isplitl [HO]; · iexact HO
  isplitl [Hx]; · iexact Hx
  isplitl [Hr]; · iexact Hr
  isplitl [Hg]; · iexact Hg
  iexact Hf

theorem run_open (c : Dev nD) : bodyPre m c ⊢ iprop(∃ K, ctx (argsOf m) K ∗ runPre (argsOf m) c) := by
  unfold bodyPre Φ₀ start G' ctx runPre outPts
  iintro ⟨⟨⟨⟨%K, HR, HL⟩, ⟨HcB, HcR⟩, Hlev⟩, Hbufs⟩, HO, Hx, Hr, Hg, ⟨%f, Hf⟩⟩
  ihave Hb := (bufs_intro (F := F) c) $$ Hbufs
  ihave Hcs := (cells_intro (F := F) c) $$ [HL HcR]
  · isplitl [HL]; · iexact HL
    iexact HcR
  icases Hcs with ⟨Hat, Hj, Hcells⟩
  iexists K
  isplitl [HR Hlev]
  · isplitl [HR]; · iexact HR
    iexact Hlev
  isplitl [HO]; · iexact HO
  isplitl [HcB Hat Hj]
  · isplitl [HcB]; · iexact HcB
    isplitl [Hat]; · iexact Hat
    iexact Hj
  isplitl [Hcells]; · iexact Hcells
  isplitl [Hx Hr Hg Hf]
  · isplitl [Hx]; · iexact Hx
    isplitl [Hr]; · iexact Hr
    isplitl [Hg]; · iexact Hg
    iexists f
    isplitl [Hf]; · iexact Hf
    ipureintro
    exact fun _ _ h => h.elim
  iexact Hb

theorem body_run (c : Dev nD) : bodyPre m c ⊢ wpc c prog (fun _ => bodyPost m c) := by
  refine (run_open m c).trans ?_
  iintro ⟨%K, #HC, H⟩
  iapply (wp_fupd frame (wpE (defs₀ (F := F)) 𝒱₀ (c : Thread nD τ) none) Set.univ prog (fun _ => bodyPost m c))
  ihave Hw := (wp_prog (argsOf m) K c) $$ [H]
  · isplitr; · iexact HC
    iexact H
  iapply (wp_wand frame (wpE (defs₀ (F := F)) 𝒱₀ (c : Thread nD τ) none) Set.univ (Q' := fun _ => iprop(|={Set.univ}=> bodyPost m c))) $$ Hw
  iintro %_ H
  iapply (run_close m K c)
  isplitr; · iexact HC
  iexact H

set_option maxRecDepth 4000 in
def obPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
set_option maxRecDepth 4000 in
def obPost (c : Dev nD) : sProp 𝕄 :=
  iprop(Φ₁ c ∗ (dats m 0 c).owesAt () t0_0.succ
    ∗ stg c cc0_stg0_0 ((argsOf m).x c) ∗ stg c cc0_stg1_0 ((argsOf m).r c) ∗ stg c cc0_stg2_0 ((argsOf m).g c) ∗ stg c cc0_stg3_0 (OUT (argsOf m) c))

theorem ob_open (c : Dev nD) : obPre m c ⊢ bodyPre m c := by
  unfold obPre bodyPre Dat.owesAt Pipeline.owesWithin ow xPts resPts gamPts
  iintro ⟨HΦ, ⟨%W, %hW, HO⟩, ⟨%d0, ⟨%f0, %h0, H0⟩⟩, ⟨%d1, ⟨%f1, %h1, H1⟩⟩, ⟨%d2, ⟨%f2, %h2, H2⟩⟩, ⟨%d3, ⟨%f3, %h3, H3⟩⟩⟩
  rw [before_x] at h0
  rw [before_r] at h1
  rw [before_g] at h2
  subst h0 h1 h2
  isplitl [HΦ]; · iexact HΦ
  isplitl [HO]; · iexists W; iexact HO
  isplitl [H0]; · iexact H0
  isplitl [H1]; · iexact H1
  isplitl [H2]; · iexact H2
  iexists f3; iexact H3

theorem ob_close (c : Dev nD) : bodyPost m c ⊢ obPost m c := by
  unfold obPost bodyPost Dat.owesAt Pipeline.owesWithin ow xPts resPts gamPts
  iintro ⟨HΦ, ⟨%W, HO⟩, H0, H1, H2, H3⟩
  isplitl [HΦ]; · iexact HΦ
  isplitl [HO]
  · iexists W
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 8000 in
/-- The library's body obligation on device `c`. -/
theorem body_obligation (c : Dev nD) : BodyObligation (dats (F := F) m 0 c) (defs₀ (F := F)) 𝒱₀ () Set.univ := fun t => by
  rw [fin_N0 t, bigSep_W0, bigSep_W0]
  simp only [owns_whole_eq]
  show obPre m c ⊢ wpc c (bodyAt0 t0_0) (fun _ => obPost m c)
  rw [body_eq]
  exact ((ob_open m c).trans (body_run m c)).trans (wp_mono frame (wpE (defs₀ (F := F)) 𝒱₀ (c : Thread nD τ) none) Set.univ fun _ => ob_close m c)

/-! ## The run -/

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf allCells allToks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (argsOf m) c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, unscopedSems0_eq]
  unfold Φ₁
  iintro H; iexact H

/-- The pipeline's own cells are below every other. -/
theorem lv_stage : ∀ (c : Dev nD) (w : Fin cfg0.W) (s : Fin (cfg0.win w).nbuf), lv ((c : Thread nD τ), .dma ((cfg0.win w).sem s)) () = 0 := by
  decide +kernel

theorem waits (c : Dev nD) : (levAts L lv : sProp 𝕄) ⊢ Pipeline.cellsWaits cfgs (dats m) () 0 c :=
  Pipeline.cellsWaits_intro cfgs (dats m) () 0 c fun w s t =>
    mayWait_of_above c _ 0 (le_of_eq (lv_stage c w s)) (by
      rcases t with ⟨_ | _, ht⟩
      · exact above_O₀ c
      · exact Above.zero 0)

/-- Every array of the call at what the pipeline leaves in it. -/
def ends : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- From any memory with zero counters every weakly fair execution of `@main` on the sixteen devices terminates, with
    every array of the call at the contents of the proof data and every semaphore counter at zero. -/
theorem run_main : θ_run defs (onTc (τ := τ) (main (F := F))) ⟨m, fun _ => 0, ρ⟩ (fun r => ends m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (argsOf m)) (G' := G' (argsOf m)) (u₀ := u₀)
    (hu₀ := by
      unfold u₀
      iintro Hu
      ihave H := (ownU_pair _ _) $$ Hu
      icases H with ⟨HP, HX⟩
      imod (fund_all (argsOf m)) $$ HX with HG
      imodintro
      isplitl [HP] <;> iassumption)
    (hglob := glob (argsOf m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Own

end
-- ==== Proof.Ends.lean ====
/-
What the run leaves: the result array at the contents computed, the arguments as they were.
-/
module

public import proofs.«01_k».proof.Proof.Run
public import Idealize.ShloMosaic.Lib.Pipeline.ValueKit

@[expose] public section

set_option maxRecDepth 4000

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem args_x (c : Dev nD) : (argsOf m).x c = m ((c : Thread nD τ).loc main_arg0) := by
  funext j
  exact congrArg (m ((c : Thread nD τ).loc main_arg0)) (by funext a; apply Fin.ext; fin_cases a <;> exact (Nat.zero_add _).trans (Nat.one_mul _))
theorem args_r (c : Dev nD) : (argsOf m).r c = m ((c : Thread nD τ).loc main_arg1) := by
  funext j
  exact congrArg (m ((c : Thread nD τ).loc main_arg1)) (by funext a; apply Fin.ext; fin_cases a <;> exact (Nat.zero_add _).trans (Nat.one_mul _))
theorem args_g (c : Dev nD) : (argsOf m).g c = m ((c : Thread nD τ).loc main_arg2) := by
  funext j
  exact congrArg (m ((c : Thread nD τ).loc main_arg2)) (by funext a; apply Fin.ext; fin_cases a <;> exact (Nat.zero_add _).trans (Nat.one_mul _))

theorem whole_flush : (cfg0.win (3 : Fin 4)).WholeAt t0_0 := by decide +kernel

/-- The result array holds the result. -/
theorem end_out (c : Dev nD) : (dats m 0 c).arrAt (3 : Fin 4) cfg0.N = OUT (argsOf m) c :=
  (dats m 0 c).arrAt_eq_of_after_last (3 : Fin 4) t0_0 whole_flush (OUT (argsOf m) c) fun j => rfl

/-- Every weakly fair execution of `@main` terminates, with the result array of every device at the result of the
    protocol, the arguments unchanged and every semaphore counter at zero. -/
theorem run_ends : θ_run defs (onTc (τ := τ) (main (F := F))) ⟨m, fun _ => 0, ρ⟩ (fun r => (∀ c : Dev nD,
      r.2.mem ((c.tc : Thread nD τ).loc main_v1) = OUT (argsOf m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c 3).trans (end_out m c), (h.1 c 0).trans ((dats m 0 c).arrAt_in (0 : Fin 4) rfl _),
    (h.1 c 1).trans ((dats m 0 c).arrAt_in (1 : Fin 4) rfl _), (h.1 c 2).trans ((dats m 0 c).arrAt_in (2 : Fin 4) rfl _)⟩, h.2⟩) (run_main m ρ)

end Cert.KernelIdeal.Own

end
-- ==== Proof.Frames.lean ====
/-
The frames: each program ends on every schedule, its arguments as they were and every semaphore counter at zero.
-/
module

public import proofs.«01_k».proof.Defs
public import proofs.«01_k».proof.Proof.Ends
public import proofs.«01_k».proof.Proof.K.Ends
public import proofs.«01_k».proof.Proof.Gen.ReferenceIdeal.Run
public import Idealize.ShloMosaic.Lib.Quiescent

@[expose] public section

noncomputable section

namespace Cert.Proof

open Idealize.ShloMosaic Idealize.SL.Sem

/-- The kernel's frame. -/
theorem frame_kernel : Cert.quiescent_Kernel := fun m g _ =>
  (θ_run _ _ _).mono (fun _ h => ⟨fun c => (h.1 c).2, h.2⟩) (Cert.Kernel.Own.run_ends m g)

/-- The idealized kernel's frame. -/
theorem frame_kernelIdeal : Cert.quiescent_KernelIdeal := fun m g _ =>
  (θ_run _ _ _).mono (fun _ h => ⟨fun c => (h.1 c).2, h.2⟩) (Cert.KernelIdeal.Own.run_ends m g)

/-- The reference's frame: it has no semaphores at all. -/
theorem frame_referenceIdeal : Cert.quiescent_ReferenceIdeal := fun m g _ =>
  (θ_run _ _ _).mono (fun r h => ⟨fun c => (h c).2, sem_eq_zero_of_no_sems rfl r.2⟩) (Cert.ReferenceIdeal.Value.run m g)

end Cert.Proof

end
-- ==== Proof.Scalars.lean ====
/-
The mathematics of one element of the result over the extended reals: the sum of four terms in any order, and the quotient
by a square root as the product with the reciprocal square root.
-/
module

public import Idealize.ShloMosaic.PureOps.Ideal.Laws
public import Idealize.ShloMosaic.Lib.IdealHost

@[expose] public section

noncomputable section

namespace Cert.KernelIdeal.Own

open Idealize.ShloMosaic
open scoped BigOperators

/-- The literal 1024 of the mean, as an extended real. -/
abbrev width : EReal := Ideal.ofBits .f32 0x44800000#32
/-- The literal that is added to the mean, as an extended real. -/
abbrev tiny : EReal := Ideal.ofBits .f32 0x358637BD#32

theorem width_eq : width = ((1024 : ℝ) : EReal) := by
  simp [width, Ideal.ofBits, Ideal.ieee, -EReal.coe_mul]; norm_num

theorem tiny_pos : 0 < tiny := by
  simp [tiny, Ideal.ofBits, Ideal.ieee, -EReal.coe_mul]

/-- Over a number above zero, dividing by the square root is multiplying by the reciprocal square root. -/
theorem div_sqrt (y s : EReal) (hs : 0 < s) : Ideal.div y (Ideal.sqrt s) = y * Ideal.rsqrt s := by
  induction s using EReal.rec with
  | bot => exact absurd hs (by simp)
  | top => show Ideal.div y ⊤ = y * 0; simp [Ideal.div]
  | coe r =>
    have hr : 0 < r := by exact_mod_cast hs
    have hq : √r ≠ 0 := (Real.sqrt_pos.2 hr).ne'
    have e1 : Ideal.sqrt (r : EReal) = ((√r : ℝ) : EReal) := if_neg hr.not_gt
    have e2 : Ideal.rsqrt (r : EReal) = (((√r)⁻¹ : ℝ) : EReal) := (if_neg hr.not_gt).trans (if_neg hr.ne')
    rw [e1, e2, Ideal.div, if_neg (by exact_mod_cast hq), EReal.coe_inv]

/-- The product of an extended real with itself is not negative. -/
theorem mul_self_nonneg' (y : EReal) : 0 ≤ y * y := by
  induction y using EReal.rec with
  | bot => simp
  | top => simp
  | coe r => exact_mod_cast mul_self_nonneg r

/-- The mean of the squares, with the literal added, is above zero. -/
theorem mean_pos (y : Fin 1024 → EReal) : 0 < Ideal.div (∑ k, y k * y k) width + tiny := by
  have h0 : (0 : EReal) ≤ ∑ k, y k * y k := Finset.sum_nonneg fun k _ => mul_self_nonneg' (y k)
  have h1 : (0 : EReal) ≤ Ideal.div (∑ k, y k * y k) width := by
    have hw : width ≠ 0 := by rw [width_eq]; exact_mod_cast (by norm_num : (1024 : ℝ) ≠ 0)
    rw [Ideal.div, if_neg hw]
    refine mul_nonneg h0 ?_
    rw [width_eq, ← EReal.coe_inv]
    exact_mod_cast (by norm_num : (0 : ℝ) ≤ 1024⁻¹)
  exact lt_of_lt_of_le tiny_pos (le_add_of_nonneg_left h1)

/-- One element of the normalised row `y`: the element times the reciprocal square root of the mean of the row's squares
    (with the literal added), times gamma's element `g`. -/
def normAt (y : Fin 1024 → EReal) (g : EReal) (j : Fin 1024) : EReal :=
  y j * Ideal.rsqrt (Ideal.div (∑ k, y k * y k) width + tiny) * g

/-- The same element with the quotient by the square root instead. -/
theorem normAt_quot (y : Fin 1024 → EReal) (g : EReal) (j : Fin 1024) :
    Ideal.div (y j) (Ideal.sqrt (Ideal.div (∑ k, y k * y k) width + tiny)) * g = normAt y g j := by
  rw [div_sqrt _ _ (mean_pos y), normAt]

end Cert.KernelIdeal.Own

end
-- ==== Proof.Value.lean ====
/-
The result of the protocol at an element, over the extended reals: the normalised sum of the four partial sums and the
residual, at the element's row.
-/
module

public import proofs.«01_k».proof.Proof.Ends
public import proofs.«01_k».proof.Proof.Scalars
public import Idealize.ShloMosaic.Lib.ValueLayout
public import Idealize.ShloMosaic.Lib.ValueLayoutCasts

@[expose] public section

noncomputable section

namespace Cert.KernelIdeal.Own

open Cert.KernelIdeal Cert.KernelIdeal.Gen
open Idealize.ShloMosaic hiding ix1 ix2 ix3
open Idealize.ShloMosaic.TcCoe Idealize.ShloMosaic.ValueIdx
open scoped BigOperators

/-- The sum of two row blocks, read at an element. -/
theorem pay1_at (a b : Vec Ideal S1x32x1024 .bf16) (i : Fin 32) (j : Fin 1024) :
    k0_pay1 a b (ix2 i j) = (a (ix3 0 i j) + b (ix3 0 i j) : EReal) := by
  show (shapeCast S32x1024 a _ (ix2 i j) + shapeCast S32x1024 b _ (ix2 i j) : EReal) = _
  exact congrArg₂ (· + ·) (shapeCast_1ab_ab_apply a _ i j) (shapeCast_1ab_ab_apply b _ i j)

/-- The pair sum of two row blocks, read at an element. -/
theorem pay27_at (a b : Vec Ideal S1x32x1024 .bf16) (i : Fin 32) (j : Fin 1024) :
    k0_pay27 a b (ix3 0 i j) = (a (ix3 0 i j) + b (ix3 0 i j) : EReal) := by
  refine (shapeCast_ab_1ab_apply (addf (F := Ideal) (φ := .bf16) (shapeCast S32x1024 a shapeCasts_S1x32x1024_S32x1024)
    (shapeCast S32x1024 b shapeCasts_S1x32x1024_S32x1024)) shapeCasts_S32x1024_S1x32x1024 0 i j).trans ?_
  exact congrArg₂ (fun u v : EReal => u + v) (shapeCast_1ab_ab_apply a _ i j) (shapeCast_1ab_ab_apply b _ i j)

/-- The normalised rows, read at an element. -/
theorem pay2_at (t : FVec Ideal S32x1024 .f32) (r : Vec Ideal S32x1024 .bf16) (g : Vec Ideal S1x1024 .bf16) (i : Fin 32) (j : Fin 1024) :
    k0_pay2 t r g (ix2 i j) = normAt (fun k => (t (ix2 i k) + r (ix2 i k) : EReal)) (g (ix2 0 j)) j := by
  have hr : shapeCast S32x1024 r shapeCasts_S32x1024_S32x1024 = r := shapeCast_self r _
  unfold k0_pay2 normAt
  rw [hr]
  refine congrArg₂ (fun u v : EReal => u * v) (congrArg₂ (fun u v : EReal => u * v) rfl ?_) ?_
  · refine (broadcastTo_apply _ broadcasts_S32x1_S32x1024 (ix2 i j) (ix2 i 0) fun a => by fin_cases a <;> rfl).trans ?_
    refine congrArg (fun u : EReal => Ideal.rsqrt (Ideal.div u width + tiny)) ?_
    refine (shapeCast_a_a1_apply _ _ i 0).trans ?_
    refine (Ideal.multiReduction_add_single _ _ _ _ _ _).trans ?_
    refine Finset.sum_congr rfl fun k _ => ?_
    have e : (reduces_S32x1024_S32.lift (ix1 i) k : S32x1024.Idx) = ix2 i k := by
      funext a; fin_cases a <;> rfl
    exact congrArg (fun v : S32x1024.Idx => ((t v + r v) * (t v + r v) : EReal)) e
  · refine (broadcastTo_1b_ab_apply _ _ i j).trans ?_
    refine (shapeCast_a_1a_apply _ _ 0 j).trans ?_
    exact shapeCast_1a_a_apply g _ j

/-- A row block sent and landed is the row block: the cast to the narrow format and back keeps an extended real. -/
theorem pay61_pay3 (t : FVec Ideal S32x1024 .f32) (r : Vec Ideal S32x1024 .bf16) (g : Vec Ideal S1x1024 .bf16) :
    k0_pay61 (k0_pay3 t r g) = k0_pay2 t r g :=
  shapeCast_shapeCast (k0_pay2 t r g : S32x1024.Idx → EReal) shapeCasts_S32x1024_S1x32x1024 shapeCasts_S1x32x1024_S32x1024

variable (I : Args Ideal)

/-- A device's argument arrays at an element, as extended reals: its part of the partial sums, -/
def xAt (c : Dev nD) (n k : Fin 1024) : EReal := I.x c (ix3 0 n k : S1x1024x1024.Idx)
/-- the residual -/
def rAt (c : Dev nD) (n k : Fin 1024) : EReal := I.r c (ix2 n k : S1024x1024.Idx)
/-- and gamma. -/
def gAt (c : Dev nD) (k : Fin 1024) : EReal := I.g c (ix2 0 k : S1x1024.Idx)

/-- Row `256 q + 32 s + i` of the whole array. -/
def rowAt (q : Fin 4) (s : Fin 8) (i : Fin 32) : Fin 1024 := ⟨256 * q.val + 32 * s.val + i.val, by omega⟩

/-- A row block of a device's quarter holds the rows of its partial sum. -/
theorem myRow_at (c : Dev nD) (s : Fin 8) (i : Fin 32) (j : Fin 1024) :
    myRow I c s (ix3 0 i j) = xAt I c (rowAt (qOf c) s i) j := by
  have e0 : (myM.access (rowRect s)).emb (ix3 0 i j : S1x32x1024.Idx) = (ix3 s i j : S8x32x1024.Idx) := by
    funext a; apply Fin.ext; fin_cases a
    · show s.val + 1 * 0 = s.val; omega
    · show 0 + 1 * i.val = i.val; omega
    · show 0 + 1 * j.val = j.val; omega
  show myV I c ((myM.access (rowRect s)).emb (ix3 0 i j : S1x32x1024.Idx)) = _
  rw [e0]
  unfold myV k0_pay60
  dsimp only
  rw [shapeCast_self]
  refine (shapeCast_apply _ shapeCasts_S256x1024_S8x32x1024 _ (ix2 (⟨32 * s.val + i.val, by omega⟩ : Fin 256) j : S256x1024.Idx) ?_).trans ?_
  · rw [Shape.rowMajor_val_two, Shape.rowMajor_val_three]
    show (32 * s.val + i.val) * 1024 + j.val = (s.val * 32 + i.val) * 1024 + j.val
    omega
  refine (shapeCast_1ab_ab_apply _ _ _ _).trans ?_
  refine congrArg (I.x c) ?_
  have h1 := off1_eq c
  funext a; apply Fin.ext; fin_cases a
  · show k0_off1 c 0 + 1 * 0 = 0; rw [h1]; rfl
  · show k0_off1 c 1 + 1 * (32 * s.val + i.val) = 256 * (qOf c).val + 32 * s.val + i.val; rw [h1]
    show 256 * (qOf c).val + 1 * (32 * s.val + i.val) = _; omega
  · show k0_off1 c 2 + 1 * j.val = j.val; rw [h1]; show 0 + 1 * j.val = _; omega

/-- The residual's rows of a block. -/
theorem resV_at (c : Dev nD) (s : Fin 8) (i : Fin 32) (j : Fin 1024) :
    resV I c s (ix2 i j) = rAt I c (rowAt (qOf c) s i) j := by
  refine congrArg (I.r c) ?_
  funext a; apply Fin.ext; fin_cases a
  · show 256 * (qOf c).val + 32 * s.val + 1 * i.val = 256 * (qOf c).val + 32 * s.val + i.val; omega
  · show 0 + 1 * j.val = j.val; omega

/-- Gamma's elements. -/
theorem gamV_at (c : Dev nD) (j : Fin 1024) : gamV I c (ix2 0 j) = (gAt I c j) := by
  refine congrArg (I.g c) ?_
  funext a; apply Fin.ext; fin_cases a
  · rfl
  · show 0 + 1 * j.val = j.val; omega

/-- The device of quarter `q` at place `z` of the summed axis. -/
def devAt (q z : Fin 4) : Dev nD := ⟨4 * q.val + z.val, by show _ < 16; omega⟩

/-- The four devices whose row blocks an inner device adds, in the order in which it adds them, -/
theorem four_inner : ∀ c : Dev nD, inner c = true → ∃ σ : Equiv.Perm (Fin 4),
    c = devAt (qOf c) (σ 0) ∧ peer 0 c = devAt (qOf c) (σ 1) ∧ peer 1 c = devAt (qOf c) (σ 2) ∧ peer 0 (peer 1 c) = devAt (qOf c) (σ 3) := by
  decide +kernel
/-- and those whose row blocks an outer device adds: the four devices of its quarter. -/
theorem four_outer : ∀ c : Dev nD, inner c = false → ∃ σ : Equiv.Perm (Fin 4),
    peer 2 c = devAt (qOf c) (σ 0) ∧ peer 0 (peer 2 c) = devAt (qOf c) (σ 1) ∧ peer 3 c = devAt (qOf c) (σ 2) ∧ peer 0 (peer 3 c) = devAt (qOf c) (σ 3) := by
  decide +kernel

theorem devAt_quarter (q z : Fin 4) : qOf (devAt q z) = q := by revert q z; decide

/-- Two sums of two are the sum over the four, in any order of the four. -/
theorem sum_four (σ : Equiv.Perm (Fin 4)) (f : Fin 4 → EReal) : (f (σ 0) + f (σ 1)) + (f (σ 2) + f (σ 3)) = ∑ z, f z := by
  rw [← Equiv.sum_comp σ f, Fin.sum_univ_four]; ac_rfl

/-- The total over a row block is the sum of the four devices' partial sums. -/
theorem tRow_at (c : Dev nD) (s : Fin 8) (i : Fin 32) (j : Fin 1024) :
    tRow I c s (ix2 i j) = ∑ z : Fin 4, xAt I (devAt (qOf c) z) (rowAt (qOf c) s i) j := by
  have hm : ∀ z, myRow I (devAt (qOf c) z) s (ix3 0 i j) = xAt I (devAt (qOf c) z) (rowAt (qOf c) s i) j := fun z => by
    rw [myRow_at, devAt_quarter]
  unfold tRow
  split
  · rename_i h
    obtain ⟨σ, h0, h1, h2, h3⟩ := four_inner c h
    refine (pay1_at _ _ i j).trans ?_
    rw [poRow, poRow, pay27_at, pay27_at, h3, h1, h2, congrArg (fun d => myRow I d s (ix3 0 i j)) h0, hm, hm, hm, hm]
    exact sum_four σ fun z => xAt I (devAt (qOf c) z) (rowAt (qOf c) s i) j
  · rename_i h
    obtain ⟨σ, h0, h1, h2, h3⟩ := four_outer c (by simpa using h)
    refine (pay1_at _ _ i j).trans ?_
    rw [poRow, poRow, pay27_at, pay27_at, h3, h1, h2, h0, hm, hm, hm, hm]
    exact sum_four σ fun z => xAt I (devAt (qOf c) z) (rowAt (qOf c) s i) j

/-- The row of the sum, the residual added, as one device of a quarter has it. -/
def sumRow (d : Dev nD) (n k : Fin 1024) : EReal :=
  (∑ z : Fin 4, xAt I (devAt (qOf d) z) n k) + rAt I d n k

/-- The normalised rows of a device's own quarter, at an element. -/
theorem outQ_at (c : Dev nD) (s : Fin 8) (i : Fin 32) (j : Fin 1024) :
    outQ I c s (ix2 i j) = normAt (sumRow I c (rowAt (qOf c) s i)) (gAt I c j) j := by
  unfold outQ
  rw [pay2_at, gamV_at]
  exact congrArg (fun y => normAt y _ j) (funext fun k => congrArg₂ (fun u v : EReal => u + v) (tRow_at I c s i k) (resV_at I c s i k))

theorem holder_quarter : ∀ (q : Fin 4) (c : Dev nD), qOf (holder q c) = q := by decide +kernel

/-- Every block of the result is the block of the quarter's holder. -/
theorem outv_holder (c : Dev nD) (q : Fin 4) (s : Fin 8) : outv I c q s = outQ I (holder q c) s := by
  unfold outv
  split
  · rename_i h; rw [h, holder_self]
  · exact pay61_pay3 _ _ _

theorem row_place (n : Fin 1024) : rowAt (rowQ n) (rowS n) ⟨n.val % 32, Nat.mod_lt _ (by decide)⟩ = n := by
  apply Fin.ext
  show 256 * (n.val / 256) + 32 * (n.val / 32 % 8) + n.val % 32 = n.val
  omega

/-- The result at an element: the normalised row of the sum, as the quarter's holder has it. -/
theorem OUT_at (c : Dev nD) (n j : Fin 1024) :
    OUT I c (ix2 n j) = normAt (sumRow I (holder (rowQ n) c) n) (gAt I (holder (rowQ n) c) j) j := by
  have e : inBlk (ix2 n j : S1024x1024.Idx) = (ix2 ⟨n.val % 32, Nat.mod_lt _ (by decide)⟩ j : S32x1024.Idx) := by
    funext a; fin_cases a <;> rfl
  show outv I c (rowQ n) (rowS n) (inBlk (ix2 n j)) = _
  rw [outv_holder, e, outQ_at, holder_quarter, row_place]

end Cert.KernelIdeal.Own

end
-- ==== Proof.Equation.lean ====
/-
The equation: the reference's result at an element, and the kernel's result on every device equal to it.
-/
module

public import proofs.«01_k».proof.Defs
public import proofs.«01_k».proof.Proof.Value
public import proofs.«01_k».proof.Proof.Gen.ReferenceIdeal.Run

@[expose] public section

noncomputable section

namespace Cert.ReferenceIdeal.Value

open Cert.ReferenceIdeal Cert.ReferenceIdeal.Gen
open Idealize.ShloMosaic hiding ix1 ix2 ix3 eq_ix2
open Idealize.ShloMosaic.TcCoe Idealize.ShloMosaic.ValueIdx
open Cert.KernelIdeal.Own (normAt normAt_quot width tiny)
open scoped BigOperators

variable (x : FVec Ideal S4x1024x1024 .bf16) (r : FVec Ideal S1024x1024 .bf16) (g : FVec Ideal S1x1024 .bf16)

/-- The sum of the four partial sums and the residual, as the reference adds them. -/
def total : FVec Ideal S1024x1024 .f32 :=
  addf (Host.reduceAdd (extf .f32 x bitsLt_bf16_f32) (constant S_ .f32 0x00000000#32) reducesTo_S4x1024x1024_S1024x1024_d0 h_S_)
    (extf .f32 r bitsLt_bf16_f32)

/-- The sum at an element. -/
theorem total_at (n j : Fin 1024) :
    total x r (ix2 n j) = ((∑ z : Fin 4, x (ix3 z n j)) + r (ix2 n j) : EReal) := by
  refine congrArg₂ (fun u v : EReal => u + v) ?_ rfl
  have hr : S4x1024x1024.Reduces [0] S1024x1024 := by decide
  refine (Ideal.hostReduceAdd_single _ hr _ _ _).trans ?_
  have e0 : (constant S_ .f32 0x00000000#32 : FVec Ideal S_ .f32) (Shape.Idx.first h_S_) = (0 : EReal) := Ideal.ofBits_zero_f32
  rw [e0, zero_add]
  refine Finset.sum_congr rfl fun z _ => congrArg x ?_
  funext a; fin_cases a <;> rfl

/-- The reference's result of a row sum `Y` and gamma. -/
def result (Y : FVec Ideal S1024x1024 .f32) : FVec Ideal S1024x1024 .f32 :=
  mulf (Host.divf Y (broadcastInDim S1024x1024 ![0, 1] bcast_S1024x1_S1024x1024_0_1 (Host.sqrt (addf (Host.divf
      (broadcastInDim S1024x1 ![0] bcast_S1024_S1024x1_0 (Host.reduceAdd (mulf Y Y) (constant S_ .f32 0x00000000#32) reducesTo_S1024x1024_S1024_d1 h_S_))
      (broadcastInDim S1024x1 ![] bcast_S_S1024x1 (constant S_ .f32 0x44800000#32)))
      (broadcastInDim S1024x1 ![] bcast_S_S1024x1 (constant S_ .f32 0x358637BD#32))))))
    (broadcastInDim S1024x1024 ![0, 1] bcast_S1x1024_S1024x1024_0_1 (broadcastInDim S1x1024 ![1] bcast_S1024_S1x1024_1
      (extf .f32 (shapeCast S1024 g shapeCasts_S1x1024_S1024) bitsLt_bf16_f32)))

/-- The reference's result at an element: the normalised row. -/
theorem result_at (Y : FVec Ideal S1024x1024 .f32) (n j : Fin 1024) :
    result g Y (ix2 n j) = normAt (fun k => Y (ix2 n k)) (g (ix2 0 j)) j := by
  rw [← normAt_quot]
  unfold result
  refine congrArg₂ (fun u v : EReal => u * v) (congrArg (fun u : EReal => Ideal.div (Y (ix2 n j)) u) ?_) ?_
  · refine (broadcastInDim_apply _ bcast_S1024x1_S1024x1024_0_1 _ (ix2 n j) (ix2 n 0) fun a => by fin_cases a <;> rfl).trans ?_
    refine congrArg Ideal.sqrt (congrArg₂ (fun u v : EReal => u + v) (congrArg₂ Ideal.div ?_ ?_) ?_)
    · refine (broadcastInDim_apply _ bcast_S1024_S1024x1_0 _ (ix2 n 0) (ix1 n) fun a => by fin_cases a; rfl).trans ?_
      have hr : S1024x1024.Reduces [1] S1024 := by decide
      refine (Ideal.hostReduceAdd_single _ hr _ _ _).trans ?_
      have e0 : (constant S_ .f32 0x00000000#32 : FVec Ideal S_ .f32) (Shape.Idx.first h_S_) = (0 : EReal) := Ideal.ofBits_zero_f32
      rw [e0, zero_add]
      refine Finset.sum_congr rfl fun k _ => ?_
      have e : (hr.lift (ix1 n) k : S1024x1024.Idx) = ix2 n k := by funext a; fin_cases a <;> rfl
      exact congrArg (fun v : S1024x1024.Idx => (Y v * Y v : EReal)) e
    · exact broadcastInDim_scalar_apply _ _ _
    · exact broadcastInDim_scalar_apply _ _ _
  · refine (broadcastInDim_apply _ bcast_S1x1024_S1024x1024_0_1 _ (ix2 n j) (ix2 0 j) fun a => by fin_cases a <;> rfl).trans ?_
    refine (broadcastInDim_apply _ bcast_S1024_S1x1024_1 _ (ix2 0 j) (ix1 j) fun a => by fin_cases a; rfl).trans ?_
    exact shapeCast_1a_a_apply g _ j

end Cert.ReferenceIdeal.Value

namespace Cert.Proof

open Idealize.ShloMosaic hiding ix1 ix2 ix3 eq_ix2
open Idealize.ShloMosaic.TcCoe Idealize.ShloMosaic.ValueIdx Idealize.SL.Sem
open Cert.KernelIdeal.Own Cert.ReferenceIdeal.Value
open scoped BigOperators

/-- A device's place on the summed axis is the block of the whole partial sums that it holds. -/
theorem block_at (q z : Fin 4) (v : (⟨3, ![4, 1024, 1024]⟩ : Shape).Idx → EReal) (n k : Fin 1024) :
    (Layout.blockN ⟨3, ![1, 1024, 1024]⟩ ⟨3, ![4, 1024, 1024]⟩ (Layout.meshBlock [2, 2, 4] ![[2], [], []] (devAt q z)) v :
      (⟨3, ![1, 1024, 1024]⟩ : Shape).Idx → EReal) (ix3 0 n k) = v (ix3 z n k) := by
  refine congrArg v ?_
  funext a; apply Fin.ext; fin_cases a
  · have hz : ∀ q z : Fin 4, ((Layout.meshBlock [2, 2, 4] ![[2], [], []] (devAt q z)) (0 : Fin 3)).val = z.val := by decide +kernel
    show ((Layout.meshBlock [2, 2, 4] ![[2], [], []] (devAt q z)) (0 : Fin 3)).val * 1 + 0 = z.val
    rw [hz]; omega
  · show 0 * 1024 + n.val = n.val; omega
  · show 0 * 1024 + k.val = k.val; omega

/-- At every device the kernel's whole result is the reference's result of the whole arrays, of whatever extended reals
    the arguments hold. -/
theorem value : Cert.algebraic_KernelIdeal_ReferenceIdeal := by
  intro m g m' g' _ hargs
  set X : FVec Ideal Cert.ReferenceIdeal.S4x1024x1024 .bf16 := m' (((0 : Dev Cert.ReferenceIdeal.nD).tc : Thread Cert.ReferenceIdeal.nD Cert.ReferenceIdeal.τ).loc Cert.ReferenceIdeal.main_arg0) with hX
  set R : FVec Ideal Cert.ReferenceIdeal.S1024x1024 .bf16 := m' (((0 : Dev Cert.ReferenceIdeal.nD).tc : Thread Cert.ReferenceIdeal.nD Cert.ReferenceIdeal.τ).loc Cert.ReferenceIdeal.main_arg1) with hR
  set G : FVec Ideal Cert.ReferenceIdeal.S1x1024 .bf16 := m' (((0 : Dev Cert.ReferenceIdeal.nD).tc : Thread Cert.ReferenceIdeal.nD Cert.ReferenceIdeal.τ).loc Cert.ReferenceIdeal.main_arg2) with hG
  have hout : ∀ c, OUT (argsOf m) c = result G (total X R) := by
    intro c
    funext i
    obtain ⟨n, j, rfl⟩ : ∃ n j : Fin 1024, i = ix2 n j := ⟨i 0, i 1, eq_ix2 i⟩
    refine (OUT_at _ c n j).trans ((result_at G (total X R) n j).trans ?_).symm
    have eg : ∀ d k, gAt (argsOf m) d k = G (ix2 0 k) := fun d k => by unfold gAt; rw [args_g, (hargs d).2.2]
    have er : ∀ d n k, rAt (argsOf m) d n k = R (ix2 n k) := fun d n k => by unfold rAt; rw [args_r, (hargs d).2.1]
    have ex : ∀ q z n k, xAt (argsOf m) (devAt q z) n k = X (ix3 z n k) := fun q z n k => by
      unfold xAt; rw [args_x, (hargs _).1]; exact block_at q z X n k
    rw [eg]
    refine congrArg (fun y => normAt y _ _) (funext fun k => ?_)
    refine (total_at X R _ k).trans ?_
    rw [sumRow, er]
    exact congrArg₂ (fun u v : EReal => u + v) (Finset.sum_congr rfl fun z _ => (ex _ z _ k).symm) rfl
  refine ⟨result G (total X R), (θ_run _ _ _).mono (fun r h c => ⟨(h.1 c).1.trans (hout c), (h.1 c).2⟩) (run_ends m g),
    (θ_run _ _ _).mono (fun r h => ⟨(h 0).1, (h 0).2⟩) (Cert.ReferenceIdeal.Value.run m' g')⟩

end Cert.Proof

end
-- ==== Proof.lean ====
/- The five claims put together: the two kernels' and the reference's frames, the idealization, and the equation of the
   kernel's result with the reference's. -/
module

public import proofs.«01_k».proof.Defs
public import proofs.«01_k».proof.Proof.Frames
public import proofs.«01_k».proof.Proof.Equation

@[expose] public section

noncomputable section

namespace Cert.Proof

/-- Everything that is claimed. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
